-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S2048x1024 : Shape := ⟨2, ![2048, 1024]⟩
abbrev S2048x2048 : Shape := ⟨2, ![2048, 2048]⟩
abbrev S1024x2048 : Shape := ⟨2, ![1024, 2048]⟩
abbrev S512x1024 : Shape := ⟨2, ![512, 1024]⟩
abbrev S2x512x2048 : Shape := ⟨3, ![2, 512, 2048]⟩
abbrev S2 : Shape := ⟨1, ![2]⟩
abbrev S1 : Shape := ⟨1, ![1]⟩
abbrev S_ : Shape := ⟨0, ![]⟩
abbrev S1x512x1024 : Shape := ⟨3, ![1, 512, 1024]⟩
abbrev S1x512x2048 : Shape := ⟨3, ![1, 512, 2048]⟩
abbrev S512x2048 : Shape := ⟨2, ![512, 2048]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S2048x2048, .f32⟩
  | .hbm, ⟨3, _⟩ => ⟨S2048x2048, .f32⟩
  | .hbm, ⟨4, _⟩ => ⟨S1024x2048, .f32⟩
  | .hbm, ⟨5, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2048x1024, .bf16⟩
  | .local _ .vmem, ⟨5, _⟩ => ⟨S2048x2048, .bf16⟩
  | .local _ .vmem, ⟨6, _⟩ => ⟨S2048x2048, .bf16⟩
  | .local _ .vmem, ⟨7, _⟩ => ⟨S1024x2048, .bf16⟩
  | .local _ .vmem, ⟨8, _⟩ => ⟨S2x512x2048, .bf16⟩
  | .local _ .vmem, ⟨9, _⟩ => ⟨S2x512x2048, .bf16⟩
  | .local _ .vmem, ⟨10, _⟩ => ⟨S2x512x2048, .bf16⟩
  | .local _ .vmem, ⟨11, _⟩ => ⟨S2x512x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def k0_cond3 (i : grid0.Coords) : BitVec 1 :=
  let arg0 : BitVec 32 := BitVec.ofNat 32 (i 0).val
  let c8_i32 : BitVec 32 := 8#32
  let v9 : BitVec 1 := Scalar.cmpi .slt arg0 c8_i32
  let v10 : BitVec 32 := Scalar.extui v9
  let c0_i32_4 : BitVec 32 := 0#32
  let v11 : BitVec 1 := Scalar.cmpi .ne v10 c0_i32_4
  v11

def k0_off1 (i : grid0.Coords) : Fin 3 → Nat :=
  let arg0 : BitVec 32 := BitVec.ofNat 32 (i 0).val
  let c2_i32 : BitVec 32 := 2#32
  let v3 : BitVec 32 := Scalar.remsi arg0 c2_i32
  let v41 : Index := Scalar.indexCast v3
  let c0_21 : Index := 0#32
  let c0_22 : Index := 0#32
  ![v41.toNat, 0, 0]
def k0_cond5 (i : grid0.Coords) : BitVec 1 :=
  let arg0 : BitVec 32 := BitVec.ofNat 32 (i 0).val
  let c1_i32_7 : BitVec 32 := 1#32
  let v15 : BitVec 1 := Scalar.cmpi .sge arg0 c1_i32_7
  let c8_i32_8 : BitVec 32 := 8#32
  let v16 : BitVec 1 := Scalar.cmpi .sle arg0 c8_i32_8
  let v17 : BitVec 1 := Scalar.andi v15 v16
  let v18 : BitVec 32 := Scalar.extui v17
  let c0_i32_9 : BitVec 32 := 0#32
  let v19 : BitVec 1 := Scalar.cmpi .ne v18 c0_i32_9
  v19

def k0_off2 (i : grid0.Coords) : Fin 3 → Nat :=
  let arg0 : BitVec 32 := BitVec.ofNat 32 (i 0).val
  let c1_i32 : BitVec 32 := 1#32
  let v4 : BitVec 32 := Scalar.addi arg0 c1_i32
  let c2_i32_1 : BitVec 32 := 2#32
  let v5 : BitVec 32 := Scalar.remsi v4 c2_i32_1
  let v34 : Index := Scalar.indexCast v5
  let c0 : Index := 0#32
  let c0_17 : Index := 0#32
  ![v34.toNat, 0, 0]
def k0_cond7 (i : grid0.Coords) : BitVec 1 :=
  let arg0 : BitVec 32 := BitVec.ofNat 32 (i 0).val
  let c2_i32_12 : BitVec 32 := 2#32
  let v23 : BitVec 1 := Scalar.cmpi .sge arg0 c2_i32_12
  let c9_i32 : BitVec 32 := 9#32
  let v24 : BitVec 1 := Scalar.cmpi .sle arg0 c9_i32
  let v25 : BitVec 1 := Scalar.andi v23 v24
  let v26 : BitVec 32 := Scalar.extui v25
  let c0_i32_13 : BitVec 32 := 0#32
  let v27 : BitVec 1 := Scalar.cmpi .ne v26 c0_i32_13
  v27

def k0_off3 (i : grid0.Coords) : Fin 3 → Nat :=
  let arg0 : BitVec 32 := BitVec.ofNat 32 (i 0).val
  let c2_i32 : BitVec 32 := 2#32
  let v3 : BitVec 32 := Scalar.remsi arg0 c2_i32
  let v34 : Index := Scalar.indexCast v3
  let c0 : Index := 0#32
  let c0_17 : Index := 0#32
  ![v34.toNat, 0, 0]
def k0_cond9 (i : grid0.Coords) : BitVec 1 :=
  let arg0 : BitVec 32 := BitVec.ofNat 32 (i 0).val
  let c3_i32_15 : BitVec 32 := 3#32
  let v31 : BitVec 1 := Scalar.cmpi .sge arg0 c3_i32_15
  let v32 : BitVec 32 := Scalar.extui v31
  let c0_i32_16 : BitVec 32 := 0#32
  let v33 : BitVec 1 := Scalar.cmpi .ne v32 c0_i32_16
  v33

def k0_off4 (i : grid0.Coords) : Fin 3 → Nat :=
  let arg0 : BitVec 32 := BitVec.ofNat 32 (i 0).val
  let c1_i32 : BitVec 32 := 1#32
  let v4 : BitVec 32 := Scalar.addi arg0 c1_i32
  let c2_i32_1 : BitVec 32 := 2#32
  let v5 : BitVec 32 := Scalar.remsi v4 c2_i32_1
  let v34 : Index := Scalar.indexCast v5
  let c0 : Index := 0#32
  let c0_17 : Index := 0#32
  ![v34.toNat, 0, 0]
def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x1024 : Shape := ⟨2, ![4096, 1024]⟩
abbrev S2048x1024 : Shape := ⟨2, ![2048, 1024]⟩
abbrev S2048x2048 : Shape := ⟨2, ![2048, 2048]⟩
abbrev S1024x2048 : Shape := ⟨2, ![1024, 2048]⟩
abbrev S4096x2048 : Shape := ⟨2, ![4096, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S2048x2048, .f32⟩
  | .hbm, ⟨3, _⟩ => ⟨S2048x2048, .f32⟩
  | .hbm, ⟨4, _⟩ => ⟨S1024x2048, .f32⟩
  | .hbm, ⟨5, _⟩ => ⟨S1024x2048, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S2048x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S2048x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S2048x1024, .f32⟩
  | .hbm, ⟨21, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Proof.Sections.lean ====
/- The kernel's body as a sequence of named sections: the copies that bring a 512-row block of a
   weight matrix into the staging buffer, the step that takes such a block over into the rounded
   copy of the matrix, and the four layers. The printed kernel is the sequence of these sections. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The core's programs in this kernel. -/
abbrev Pg (F : FTy → Type) [FloatOps F] (A : Type) := Prog (TpuEff nD τ sig (Elt F) Λ₀ .tc) A

/-! ## The buffers -/

abbrev scW1 : Memref sig .tc .vmem S2048x1024 .bf16 := Memref.whole cc0_scratch0
abbrev scW2 : Memref sig .tc .vmem S2048x2048 .bf16 := Memref.whole cc0_scratch1
abbrev scW3 : Memref sig .tc .vmem S2048x2048 .bf16 := Memref.whole cc0_scratch2
abbrev scW4 : Memref sig .tc .vmem S1024x2048 .bf16 := Memref.whole cc0_scratch3
abbrev scH1 : Memref sig .tc .vmem S2x512x2048 .bf16 := Memref.whole cc0_scratch4
abbrev scH2 : Memref sig .tc .vmem S2x512x2048 .bf16 := Memref.whole cc0_scratch5
abbrev scH3 : Memref sig .tc .vmem S2x512x2048 .bf16 := Memref.whole cc0_scratch6
abbrev scSt : Memref sig .tc .vmem S2x512x2048 .f32 := Memref.whole cc0_scratch7

/-! ## A weight matrix and its 512-row blocks -/

/-- A matrix of `R` rows and `C` columns, a block of 512 of its rows, and that block as one slot of
    the staging buffer. -/
abbrev Mat (R C : ℕ) : Shape := ⟨2, ![R, C]⟩
abbrev Slab (C : ℕ) : Shape := ⟨3, ![1, 512, C]⟩

/-- Rows `512k .. 512k + 511` of a matrix lie inside it. -/
theorem rows_inb (R C k : ℕ) (h : 512 * k + 512 ≤ R) :
    ∀ a, (![512 * k, 0] : Fin 2 → Nat) a + (Mat 512 C).size a ≤ (Mat R C).size a :=
  Rect.inb₂ h (by show 0 + C ≤ C; omega)

/-- Rows `512k .. 512k + 511` of a matrix. -/
@[implicit_reducible] def rows (R C k : ℕ) (h : 512 * k + 512 ≤ R) : Rect (Mat R C) :=
  Rect.unit (s := Mat R C) ![512 * k, 0] (Mat 512 C).size (rows_inb R C k h)

/-- The first `C` columns of slot `s` of a two-slot buffer lie inside it. -/
theorem slot_inb (C s : ℕ) (hC : C ≤ 2048) (hs : s + 1 ≤ 2) :
    ∀ a, (![s, 0, 0] : Fin 3 → Nat) a + (Slab C).size a ≤ S2x512x2048.size a := by
  intro a
  match a with
  | ⟨0, _⟩ => exact hs
  | ⟨1, _⟩ => exact le_refl _
  | ⟨2, _⟩ => show 0 + C ≤ 2048; omega

/-- The first `C` columns of slot `s` of a two-slot buffer. -/
@[implicit_reducible] def slot (C s : ℕ) (hC : C ≤ 2048) (hs : s + 1 ≤ 2) : Rect S2x512x2048 :=
  Rect.unit (s := S2x512x2048) ![s, 0, 0] (Slab C).size (slot_inb C s hC hs)

/-- A weight matrix: where it is in memory, the buffer of its rounded copy, and the shape facts of
    its blocks. -/
structure Weight (R C : ℕ) where
  arr : Memref sig .tc .hbm (Mat R C) .f32
  buf : Memref sig .tc .vmem (Mat R C) .bf16
  whole : buf.IsWhole
  hC : C ≤ 2048
  sq : (Slab C).Squeezes (Mat 512 C)
  cast : (Slab C).ShapeCasts (Mat 512 C)
  cast' : (Mat 512 C).ShapeCasts (Mat 512 C)
  pos : 0 < (Slab C).numel
  pos' : 0 < (Mat 512 C).numel

/-- A 512-row block begins and ends on whole packed rows. -/
theorem rows_packed (R C k : ℕ) (h : 512 * k + 512 ≤ R) : (rows R C k h).PackedRows (EltTy.packing .bf16) :=
  Or.inr ⟨le_refl _, rfl, Or.inl ⟨⟨256 * k, by show 512 * k = 2 * (256 * k); omega⟩, ⟨256, rfl⟩⟩⟩

section Copies
variable {R C : ℕ} (A : Weight R C)

/-- Block `k` of the matrix in memory. -/
@[implicit_reducible] def Weight.blk (k : ℕ) (h : 512 * k + 512 ≤ R) : Memref sig .tc .hbm (Mat 512 C) .f32 :=
  A.arr.slice (rows R C k h) (fun _ => rfl)

/-- The part of slot `s` of the staging buffer a block of the matrix fills. -/
@[implicit_reducible] def Weight.win (s : ℕ) (hs : s + 1 ≤ 2) : Memref sig .tc .vmem (Mat 512 C) .f32 :=
  (scSt.slice (slot C s A.hC hs) (fun _ => rfl)).squeeze (Mat 512 C) A.sq

/-- The semaphore of slot `s`. -/
def semOf (s : ℕ) (hs : s + 1 ≤ 2) : DmaSem sig :=
  ((cc0_scratch8.slice (Rect.unit (s := S2) ![s] S1.size (fun a => match a with | ⟨0, _⟩ => hs))).squeeze S_ squeezes_S1_S_).sem

/-- A staged block, rounded to the weights' precision. -/
def Weight.round (v : Vec F (Slab C) .f32) : FVec F (Mat 512 C) .bf16 :=
  shapeCast (Mat 512 C) (truncf .bf16 (shapeCast (Mat 512 C) v A.cast) bitsLt_bf16_f32) A.cast'

/-- Start the copy of block `k` into slot `s`. -/
def start (k : ℕ) (hk : 512 * k + 512 ≤ R) (s : ℕ) (hs : s + 1 ≤ 2) : Pg F PUnit :=
  Prog.lift (.enqueueDma (A.blk k hk) (.here (A.win s hs)) (.dma (semOf s hs)) (View.wordExact_bits rfl)
    ((View.wordExact_bits rfl).reshape _ _) ⟨Or.inl rfl, trivial⟩)

/-- Wait for block `k` in slot `s`, and store it rounded over rows `512k ..` of the copy. -/
def recv (k : ℕ) (hk : 512 * k + 512 ≤ R) (s : ℕ) (hs : s + 1 ≤ 2) : Pg F PUnit := do
  Prog.lift (.waitDma2 (semOf s hs) (A.blk k hk) (A.win s hs) (View.wordExact_bits rfl) ((View.wordExact_bits rfl).reshape _ _))
  let v : Vec F (Slab C) .f32 ← Prog.lift (.load scSt (slot C s A.hC hs).toLoadRect (View.loadsAt_vmem A.pos))
  let _w : Vec F (Mat 512 C) .bf16 ← Prog.lift (.load A.buf (rows R C k hk).toLoadRect (View.loadsAt_vmem A.pos'))
  Prog.lift (.store A.buf (rows R C k hk) (A.round v) Finset.univ
    (View.stores_vmem A.pos' (A.whole.storeExact_slice rfl _ (rows_packed R C k hk)) (fun _ => rfl)) (.inl rfl))

end Copies

/-- Take over the four blocks of one matrix, and start the first two copies of the next. -/
def prep4 {C C' R' : ℕ} (A : Weight 2048 C) (B : Weight R' C') (h0 : 512 * 0 + 512 ≤ R') (h1 : 512 * 1 + 512 ≤ R') : Pg F PUnit := do
  recv A 0 (by omega) 0 (by omega)
  start A 2 (by omega) 0 (by omega)
  recv A 1 (by omega) 1 (by omega)
  start A 3 (by omega) 1 (by omega)
  recv A 2 (by omega) 0 (by omega)
  start B 0 h0 0 (by omega)
  recv A 3 (by omega) 1 (by omega)
  start B 1 h1 1 (by omega)

/-- Take over the two blocks of the last matrix. -/
def prep2 {C : ℕ} (A : Weight 1024 C) : Pg F PUnit := do
  recv A 0 (by omega) 0 (by omega)
  recv A 1 (by omega) 1 (by omega)

/-- Start the first two copies of the first matrix. -/
def kick {C : ℕ} (A : Weight 2048 C) : Pg F PUnit := do
  start A 0 (by omega) 0 (by omega)
  start A 1 (by omega) 1 (by omega)

/-- A section run where its guard holds, and the rest of the program after it. -/
def sec {A : Type} (c : BitVec 1) (p : c = 1#1 → Pg F PUnit) (k : Pg F A) : Pg F A :=
  if h : c = 1#1 then p h >>= fun _ => k else k

/-! ## The four weights -/

abbrev wt1 : Weight 2048 1024 where
  arr := Memref.whole main_arg1
  buf := scW1
  whole := Memref.isWhole_whole _
  hC := by omega
  sq := squeezes_S1x512x1024_S512x1024
  cast := shapeCasts_S1x512x1024_S512x1024
  cast' := shapeCasts_S512x1024_S512x1024
  pos := h_S1x512x1024
  pos' := h_S512x1024

abbrev wt2 : Weight 2048 2048 where
  arr := Memref.whole main_arg2
  buf := scW2
  whole := Memref.isWhole_whole _
  hC := by omega
  sq := squeezes_S1x512x2048_S512x2048
  cast := shapeCasts_S1x512x2048_S512x2048
  cast' := shapeCasts_S512x2048_S512x2048
  pos := h_S1x512x2048
  pos' := h_S512x2048

abbrev wt3 : Weight 2048 2048 where
  arr := Memref.whole main_arg3
  buf := scW3
  whole := Memref.isWhole_whole _
  hC := by omega
  sq := squeezes_S1x512x2048_S512x2048
  cast := shapeCasts_S1x512x2048_S512x2048
  cast' := shapeCasts_S512x2048_S512x2048
  pos := h_S1x512x2048
  pos' := h_S512x2048

abbrev wt4 : Weight 1024 2048 where
  arr := Memref.whole main_arg4
  buf := scW4
  whole := Memref.isWhole_whole _
  hC := by omega
  sq := squeezes_S1x512x2048_S512x2048
  cast := shapeCasts_S1x512x2048_S512x2048
  cast' := shapeCasts_S512x2048_S512x2048
  pos := h_S1x512x2048
  pos' := h_S512x2048

/-! ## The layers -/

/-- One layer: read a rectangle of the input buffer and one of the weights' buffer, and store what
    `f` makes of them over a rectangle of the output buffer (which is read first, and unused). -/
def layer {sx sw so : Shape} {ex ew eo : EltTy} (X : Memref sig .tc .vmem sx ex) (rx : Rect sx) (W : Memref sig .tc .vmem sw ew) (rw : Rect sw)
    (O : Memref sig .tc .vmem so eo) (ro : Rect so) (hx : 0 < rx.shape.numel) (hw : 0 < rw.shape.numel) (ho : 0 < ro.shape.numel)
    (st : (O.access ro).Stores Finset.univ)
    (f : Vec F rx.shape ex → Vec F rw.shape ew → Vec F ro.shape eo) : Pg F PUnit := do
  let x : Vec F rx.shape ex ← Prog.lift (.load X rx.toLoadRect (View.loadsAt_vmem hx))
  let w : Vec F rw.shape ew ← Prog.lift (.load W rw.toLoadRect (View.loadsAt_vmem hw))
  let _o : Vec F ro.shape eo ← Prog.lift (.load O ro.toLoadRect (View.loadsAt_vmem ho))
  Prog.lift (.store O ro (f x w) Finset.univ st (.inl rfl))

/-- A whole matrix, as a rectangle of itself. -/
@[implicit_reducible] def full (R C : ℕ) : Rect (Mat R C) :=
  Rect.unit (s := Mat R C) ![0, 0] (Mat R C).size (Rect.inb₂ (le_of_eq (Nat.zero_add R)) (le_of_eq (Nat.zero_add C)))

/-- One slot of a two-slot buffer, at an offset the step computes. -/
@[implicit_reducible] def slotBy (off : Fin 3 → Nat) (h : ∀ a, off a + S1x512x2048.size a ≤ S2x512x2048.size a) : Rect S2x512x2048 :=
  Rect.unit (s := S2x512x2048) off S1x512x2048.size h

/-- The first layer: the step's input block through the first weights, into its slot. -/
def layer1 (i : grid0.Coords) (arg1 : Memref sig .tc .vmem S512x1024 .f32) (h : k0_cond3 i = 1#1) : Pg F PUnit :=
  layer arg1 (full 512 1024) scW1 (full 2048 1024) scH1 (slotBy (k0_off1 i) (k0_off1_inb i h)) h_S512x1024 h_S2048x1024 h_S1x512x2048
    (View.stores_vmem h_S1x512x2048 ((Memref.isWhole_whole _).storeExact_slice rfl _ (k0_off1_packedbf16 i h)) (fun _ => rfl)) k0_pay14

/-- The second layer, on what the first left at the step before. -/
def layer2 (i : grid0.Coords) (h : k0_cond5 i = 1#1) : Pg F PUnit :=
  layer scH1 (slotBy (k0_off2 i) (k0_off2_inb i h)) scW2 (full 2048 2048) scH2 (slotBy (k0_off2 i) (k0_off2_inb i h)) h_S1x512x2048 h_S2048x2048 h_S1x512x2048
    (View.stores_vmem h_S1x512x2048 ((Memref.isWhole_whole _).storeExact_slice rfl _ (k0_off2_packedbf16 i h)) (fun _ => rfl)) k0_pay16

/-- The third layer, on what the second left at the step before. -/
def layer3 (i : grid0.Coords) (h : k0_cond7 i = 1#1) : Pg F PUnit :=
  layer scH2 (slotBy (k0_off3 i) (k0_off3_inb i h)) scW3 (full 2048 2048) scH3 (slotBy (k0_off3 i) (k0_off3_inb i h)) h_S1x512x2048 h_S2048x2048 h_S1x512x2048
    (View.stores_vmem h_S1x512x2048 ((Memref.isWhole_whole _).storeExact_slice rfl _ (k0_off3_packedbf16 i h)) (fun _ => rfl)) k0_pay18

/-- The last layer, on what the third left at the step before, into the output block. -/
def layer4 (i : grid0.Coords) (arg6 : Memref sig .tc .vmem S512x1024 .f32) (h : k0_cond9 i = 1#1) : Pg F PUnit :=
  layer scH3 (slotBy (k0_off4 i) (k0_off4_inb i h)) scW4 (full 1024 2048) arg6 (full 512 1024) h_S1x512x2048 h_S1024x2048 h_S512x1024
    (View.stores_vmem_bits_univ h_S512x1024 rfl) k0_pay3

/-! ## The kernel -/

/-- The guard `step = k`. -/
def cEq (i : grid0.Coords) (k : BitVec 32) : BitVec 1 :=
  Scalar.cmpi .ne (Scalar.extui (Scalar.cmpi .eq (BitVec.ofNat 32 (i 0).val) k) : BitVec 32) 0#32

/-- The first seven sections, and `k` after them. -/
def head {A : Type} (i : grid0.Coords) (arg1 : Memref sig .tc .vmem S512x1024 .f32) (k : Pg F A) : Pg F A :=
  sec (cEq i 0#32) (fun _ => kick wt1) <|
  sec (cEq i 0#32) (fun _ => prep4 wt1 wt2 (by omega) (by omega)) <|
  sec (k0_cond3 i) (fun h => layer1 i arg1 h) <|
  sec (cEq i 1#32) (fun _ => prep4 wt2 wt3 (by omega) (by omega)) <|
  sec (k0_cond5 i) (fun h => layer2 i h) <|
  sec (cEq i 2#32) (fun _ => prep4 wt3 wt4 (by omega) (by omega)) <|
  sec (k0_cond7 i) (fun h => layer3 i h) k

/-- The body as its nine sections. -/
def body (i : grid0.Coords) (arg1 arg6 : Memref sig .tc .vmem S512x1024 .f32) : Pg F PUnit :=
  head i arg1 <|
  sec (cEq i 3#32) (fun _ => prep2 wt4) <|
  sec (k0_cond9 i) (fun h => layer4 i arg6 h) <|
  pure ⟨⟩

/-- What follows a guarded section runs after the program the section is followed by. -/
theorem sec_bind {A B : Type} (c : BitVec 1) (p : c = 1#1 → Pg F PUnit) (k : Pg F A) (f : A → Pg F B) :
    sec c p k >>= f = sec c p (k >>= f) := by
  unfold sec
  split
  · rw [bind_assoc]
  · rfl

/-- What follows the first seven sections runs after the program they are followed by. -/
theorem head_bind {A B : Type} (i : grid0.Coords) (arg1 : Memref sig .tc .vmem S512x1024 .f32) (k : Pg F A) (f : A → Pg F B) :
    head i arg1 k >>= f = head i arg1 (k >>= f) := by
  unfold head
  simp only [sec_bind]

end Cert.KernelIdeal.Hand

end
-- ==== Proof.Copies.lean ====
/- What the copies and the take-over of one 512-row block of a weight matrix do. -/
module

public import proofs.«01_k».proof.Proof.Sections
public import Idealize.ShloMosaic.Lib.Pipeline.Value
public import Idealize.ShloMosaic.Lib.Writes
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- What it takes to run a program of core `c` to a post. -/
abbrev Runs (c : Dev nD) {A : Type} (p : Pg F A) (K : A → sProp 𝕄) : sProp 𝕄 :=
  wp frame (wpE (defs₀ (F := F)) Variants.none (c : Thread nD τ) none) Set.univ p K

/-! ## The rules for one load and one store -/

/-- A load that is a whole program. -/
theorem runs_load (c : Dev nD) {S : Shape} {e : EltTy} (m : Memref sig .tc .vmem S e) (r : LoadRect S) (hl : m.view.LoadsAt r)
    (T : Finset (Idx (m.view.loc (c : Thread nD τ)))) (f : Buf (Elt F) (m.view.loc (c : Thread nD τ))) (hT : m.view.setOn r.set ⊆ T)
    (K : (r.shape.Idx → Elt F e) → sProp 𝕄) :
    (m.view.loc (c : Thread nD τ) ↦[T]{fullShare} f)
      ⊢ iprop(((m.view.loc (c : Thread nD τ) ↦[T]{fullShare} f) -∗ K (m.view.readAt (Elt F) r f)) -∗ Runs c (Prog.lift (.load m r hl)) K) := by
  iintro H HK
  iapply (wp_load Variants.none (c : Thread nD τ) none Set.univ (k := .ret) hT) $$ H
  iintro H
  rw [wp_ret]
  imodintro
  iapply HK $$ H

/-- An unmasked store that is a whole program. -/
theorem runs_store (c : Dev nD) {S : Shape} {e : EltTy} (m : Memref sig .tc .vmem S e) (r : Rect S) (w : r.shape.Idx → Elt F e)
    (hx : (m.access r).Stores Finset.univ) (hm : (Finset.univ : Finset r.shape.Idx) = Finset.univ ∨ ∀ a, r.stride a = 1)
    (T : Finset (Idx (m.view.loc (c : Thread nD τ)))) (f : Buf (Elt F) (m.view.loc (c : Thread nD τ))) (hT : (m.access r).set ⊆ T)
    (K : PUnit → sProp 𝕄) :
    (m.view.loc (c : Thread nD τ) ↦[T]{fullShare} f)
      ⊢ iprop(((m.view.loc (c : Thread nD τ) ↦[T]{fullShare} m.view.writes (Elt F) f [⟨r, w⟩]) -∗ K ⟨⟩) -∗ Runs c (Prog.lift (.store m r w Finset.univ hx hm)) K) := by
  iintro H HK
  iapply (wp_store_writes₀ Variants.none (c : Thread nD τ) none Set.univ (k := .ret) hT) $$ H
  iintro H
  rw [wp_ret]
  imodintro
  iapply HK $$ H

/-- A load of a rectangle reads inside the buffer. -/
theorem load_sub {S : Shape} {e : EltTy} (m : Memref sig .tc .vmem S e) (r : LoadRect S) : m.view.setOn r.set ⊆ m.view.set :=
  View.setOn_subset_set _ _

/-! ## What the copies hold -/

/-- The elements of slot `s` of the staging buffer. -/
abbrev slotSet (s : ℕ) (hs : s + 1 ≤ 2) : Finset scSt.view.ty.Idx := scSt.view.setOn (slot 2048 s (by omega) hs).set

/-- Slot `s` of the staging buffer, at anything. -/
def slotAt (c : Dev nD) (s : ℕ) (hs : s + 1 ≤ 2) : sProp 𝕄 :=
  iprop(∃ f, scSt.view.loc (c : Thread nD τ) ↦[slotSet s hs]{fullShare} f)

/-- The semaphore of slot `s`, at zero. -/
def semAt (c : Dev nD) (s : ℕ) (hs : s + 1 ≤ 2) : sProp 𝕄 := semVal ((c : Thread nD τ), SemLoc.dma (semOf s hs)) 0

section Weights
variable {R C : ℕ} (A : Weight R C)

/-- What memory holds of the matrix. -/
abbrev Held (c : Dev nD) := Buf (Elt F) (A.arr.view.loc (c : Thread nD τ))

/-- Block `k` of the matrix in memory. -/
def blkAt (c : Dev nD) (k : ℕ) (hk : 512 * k + 512 ≤ R) (g : Held (F := F) A c) : sProp 𝕄 :=
  (A.blk k hk).view.loc (c : Thread nD τ) ↦[(A.blk k hk).view.set]{fullShare} g

/-- The matrix rounded to the weights' precision. -/
def Weight.rounded (c : Dev nD) (g : Held (F := F) A c) : (Mat R C).Idx → Elt F .bf16 :=
  truncf .bf16 (A.arr.view.read (Elt F) g : FVec F (Mat R C) .f32) bitsLt_bf16_f32

/-- The rounded copy, its first `512 n` rows in place. -/
def bufAt (c : Dev nD) (g : Held (F := F) A c) (n : ℕ) : sProp 𝕄 :=
  iprop(∃ f, (A.buf.view.loc (c : Thread nD τ) ↦[A.buf.view.set]{fullShare} f)
    ∗ ⌜∀ y : (Mat R C).Idx, (y 0).val < 512 * n → A.buf.view.read (Elt F) f y = A.rounded c g y⌝)

/-- The staging buffer, its slot `s` overwritten by block `k` where the block fills it. -/
@[reducible] def landed (c : Dev nD) (k : ℕ) (hk : 512 * k + 512 ≤ R) (s : ℕ) (hs : s + 1 ≤ 2) (g : Held (F := F) A c)
    (fd : Buf (Elt F) (scSt.view.loc (c : Thread nD τ))) : Buf (Elt F) (scSt.view.loc (c : Thread nD τ)) :=
  (A.win s hs).view.write (Elt F) fd (ReadAs.same.apply ((A.blk k hk).view.read (Elt F) g)) Finset.univ

/-- The copy of block `k` into slot `s`, under way: at its wait it hands back the slot, holding the
    block where the block fills it, and the block. -/
def inFlight (c : Dev nD) (k : ℕ) (hk : 512 * k + 512 ≤ R) (s : ℕ) (hs : s + 1 ≤ 2) (g : Held (F := F) A c) : sProp 𝕄 :=
  iprop(∃ fd, Transfers.Flight countersEmb (c : Thread nD τ) (.dma (semOf s hs)) () (A.win s hs).view.dmaCredit
    iprop((scSt.view.loc (c : Thread nD τ) ↦[slotSet s hs]{fullShare} landed A c k hk s hs g fd)
      ∗ blkAt A c k hk g))

/-- The first columns of a slot are part of the slot. -/
theorem slot_sub (C s : ℕ) (hC : C ≤ 2048) (hs : s + 1 ≤ 2) : scSt.view.setOn (slot C s hC hs).set ⊆ slotSet s hs := by
  refine Finset.map_subset_map.mpr fun y hy => ?_
  rw [slot, Rect.mem_set_unit] at hy ⊢
  intro a
  match a with
  | ⟨0, _⟩ => exact hy 0
  | ⟨1, _⟩ => exact hy 1
  | ⟨2, _⟩ => exact ⟨Nat.zero_le _, by have := (y 2).isLt; show (y 2).val < 0 + 2048; exact (Nat.zero_add 2048).symm ▸ this⟩

/-- A block fills part of its slot. -/
theorem win_sub (s : ℕ) (hs : s + 1 ≤ 2) : (A.win s hs).view.set ⊆ slotSet s hs := by
  rw [show (A.win s hs).view.set = ((slot C s A.hC hs).set.map scSt.view.emb : Finset scSt.view.ty.Idx) from
    (View.set_reshape (scSt.view.slice (slot C s A.hC hs)) _).trans (View.set_slice _ _)]
  exact slot_sub C s A.hC hs

/-- Starting a copy: the block, the slot and the semaphore go into the copy under way. -/
theorem runs_start (c : Dev nD) (k : ℕ) (hk : 512 * k + 512 ≤ R) (s : ℕ) (hs : s + 1 ≤ 2) (g : Held (F := F) A c) (K : PUnit → sProp 𝕄) :
    iprop(blkAt A c k hk g ∗ slotAt c s hs ∗ semAt c s hs)
      ⊢ iprop((inFlight A c k hk s hs g -∗ K ⟨⟩) -∗ Runs c (start A k hk s hs) K) := by
  unfold slotAt semAt start inFlight
  iintro ⟨Hb, ⟨%fd, Hs⟩, Hv⟩ HK
  iapply (Transfers.wp_dmaLocal countersEmb Variants.none (c : Thread nD τ) none (k := .ret) () (A.win s hs).view.dmaCredit rfl
    (View.dmaCredit_pos _ A.pos') (win_sub A s hs)) $$ [Hb Hs Hv]
  · isplitl [Hb]; · unfold blkAt; iexact Hb
    isplitl [Hs]; · iexact Hs
    iexact Hv
  iintro HF
  rw [wp_ret]
  imodintro
  iapply HK
  iexists fd
  unfold blkAt
  iexact HF

/-- What a staged block is once it has landed, rounded: the block rounded. -/
theorem round_landed (c : Dev nD) (k : ℕ) (hk : 512 * k + 512 ≤ R) (s : ℕ) (hs : s + 1 ≤ 2) (g : Held (F := F) A c)
    (fd : Buf (Elt F) (scSt.view.loc (c : Thread nD τ))) :
    A.round (scSt.view.readAt (Elt F) (slot C s A.hC hs).toLoadRect
        (landed A c k hk s hs g fd))
      = truncf .bf16 ((A.blk k hk).view.read (Elt F) g : FVec F (Mat 512 C) .f32) bitsLt_bf16_f32 := by
  have h : shapeCast (Mat 512 C) (scSt.view.readAt (Elt F) (slot C s A.hC hs).toLoadRect
        (landed A c k hk s hs g fd)) A.cast
      = (A.blk k hk).view.read (Elt F) g :=
    (show _ = (A.win s hs).view.read (Elt F) (landed A c k hk s hs g fd)
      from rfl).trans (View.read_write_univ _ _)
  unfold Weight.round
  rw [h, shapeCast_self]

/-- Storing block `k` rounded extends the rows in place by the block. -/
theorem rows_stored (c : Dev nD) (k : ℕ) (hk : 512 * k + 512 ≤ R) (g : Held (F := F) A c)
    (f : Buf (Elt F) (A.buf.view.loc (c : Thread nD τ)))
    (hf : ∀ y : (Mat R C).Idx, (y 0).val < 512 * k → A.buf.view.read (Elt F) f y = A.rounded c g y)
    (y : (Mat R C).Idx) (hy : (y 0).val < 512 * (k + 1)) :
    A.buf.view.read (Elt F) (A.buf.view.writes (Elt F) f
      [⟨rows R C k hk, truncf .bf16 ((A.blk k hk).view.read (Elt F) g : FVec F (Mat 512 C) .f32) bitsLt_bf16_f32⟩]) y = A.rounded c g y := by
  by_cases h : (y 0).val < 512 * k
  · rw [View.read_writes_cons_miss_of_axis (a := (0 : Fin 2)) (o := 512 * k) (n := 512) (ho := rfl) (hst := rfl) (hn := rfl) (h := Or.inl h)]
    exact hf y h
  · let x : (Mat 512 C).Idx := fun a => match a with
      | ⟨0, _⟩ => ⟨(y 0).val - 512 * k, by show _ < 512; omega⟩
      | ⟨1, _⟩ => y 1
    have hx : ∀ a, (y a).val = (rows R C k hk).off a + (rows R C k hk).stride a * (x a).val := by
      intro a
      match a with
      | ⟨0, _⟩ => show (y 0).val = 512 * k + 1 * ((y 0).val - 512 * k); omega
      | ⟨1, _⟩ => show (y 1).val = 0 + 1 * (y 1).val; omega
    rw [View.read_writes_cons_hit_of_coords (x := x) (hx := hx)]
    have e : (rows R C k hk).emb x = y := (rows R C k hk).emb_eq_of_coords x y hx
    exact congrArg (A.rounded c g) e

/-- Taking over block `k`: the copy under way lands, and the block's rows are in place. -/
theorem runs_recv (c : Dev nD) (k : ℕ) (hk : 512 * k + 512 ≤ R) (s : ℕ) (hs : s + 1 ≤ 2) (g : Held (F := F) A c) (K : PUnit → sProp 𝕄) :
    iprop(inFlight A c k hk s hs g ∗ bufAt A c g k ∗ (∃ W, owes (c : Thread nD τ) 0 W))
      ⊢ iprop((iprop(slotAt c s hs ∗ semAt c s hs ∗ blkAt A c k hk g ∗ bufAt A c g (k + 1) ∗ (∃ W, owes (c : Thread nD τ) 0 W)) -∗ K ⟨⟩)
        -∗ Runs c (recv A k hk s hs) K) := by
  unfold recv inFlight bufAt
  simp only [wp_bind]
  iintro ⟨⟨%fd, HF⟩, ⟨%f, Hw, %hf⟩, ⟨%W, HW⟩⟩ HK
  iapply (Transfers.wp_waitLocal countersEmb Variants.none (c : Thread nD τ) none (k := .ret) () rfl) $$ [HF HW]
  · isplitl [HF]; · iexact HF
    iexact HW
  iintro ⟨⟨Hs, Hb⟩, Hv, HW⟩
  rw [wp_ret]
  imodintro
  iapply (runs_load c scSt (slot C s A.hC hs).toLoadRect _ (slotSet s hs) _ (slot_sub C s A.hC hs)) $$ Hs
  iintro Hs
  iapply (runs_load c A.buf (rows R C k hk).toLoadRect _ A.buf.view.set _ (load_sub _ _)) $$ Hw
  iintro Hw
  iapply (runs_store c A.buf (rows R C k hk) _ _ _ A.buf.view.set _ (View.set_slice_subset _ _)) $$ Hw
  iintro Hw
  iapply HK
  isplitl [Hs]; · unfold slotAt; iexists _; iexact Hs
  isplitl [Hv]; · unfold semAt; iexact Hv
  isplitl [Hb]; · iexact Hb
  isplitl [Hw]
  · iexists _
    isplitl [Hw]; · iexact Hw
    ipureintro
    rw [round_landed]
    exact rows_stored A c k hk g f hf
  iexists _; iexact HW

end Weights

end Cert.KernelIdeal.Hand

end
-- ==== Proof.Prep.lean ====
/- What taking over a whole weight matrix does. -/
module

public import proofs.«01_k».proof.Proof.Copies

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- The two slots of the staging buffer at anything, and their semaphores at zero. -/
def idleSlots (c : Dev nD) : sProp 𝕄 :=
  iprop(slotAt c 0 (by omega) ∗ slotAt c 1 (by omega) ∗ semAt c 0 (by omega) ∗ semAt c 1 (by omega))

/-- Some record of the waits so far, nothing owed. -/
def waits (c : Dev nD) : sProp 𝕄 := iprop(∃ W, owes (c : Thread nD τ) 0 W)

section Weights
variable {R C : ℕ} (A : Weight R C)

/-- The first two blocks of a matrix, under way into the two slots. -/
def pair (c : Dev nD) (h0 : 512 * 0 + 512 ≤ R) (h1 : 512 * 1 + 512 ≤ R) (g : Held (F := F) A c) : sProp 𝕄 :=
  iprop(inFlight A c 0 h0 0 (by omega) g ∗ inFlight A c 1 h1 1 (by omega) g)

/-- Two consecutive blocks of a matrix in memory, from block `k` on. -/
def two (c : Dev nD) (k : ℕ) (h0 : 512 * k + 512 ≤ R) (h1 : 512 * (k + 1) + 512 ≤ R) (g : Held (F := F) A c) : sProp 𝕄 :=
  iprop(blkAt A c k h0 g ∗ blkAt A c (k + 1) h1 g)

end Weights

/-- The four blocks of a matrix in memory. -/
def four {C : ℕ} (A : Weight 2048 C) (c : Dev nD) (g : Held (F := F) A c) : sProp 𝕄 :=
  iprop(two A c 0 (by omega) (by omega) g ∗ two A c 2 (by omega) (by omega) g)

/-- Starting the first two copies. -/
theorem runs_kick {C : ℕ} (A : Weight 2048 C) (c : Dev nD) (g : Held (F := F) A c) (K : PUnit → sProp 𝕄) :
    iprop(two A c 0 (by omega) (by omega) g ∗ idleSlots c)
      ⊢ iprop((pair A c (by omega) (by omega) g -∗ K ⟨⟩) -∗ Runs c (kick A) K) := by
  unfold kick two idleSlots pair
  simp only [wp_bind]
  iintro ⟨⟨B0, B1⟩, S0, S1, V0, V1⟩ HK
  iapply (runs_start A c 0 _ 0 _ g) $$ [B0 S0 V0]
  · isplitl [B0]; · iexact B0
    isplitl [S0]; · iexact S0
    iexact V0
  iintro F0
  iapply (runs_start A c 1 _ 1 _ g) $$ [B1 S1 V1]
  · isplitl [B1]; · iexact B1
    isplitl [S1]; · iexact S1
    iexact V1
  iintro F1
  iapply HK
  isplitl [F0]; · iexact F0
  iexact F1

/-- Taking over one block and starting the next copy into its slot. -/
theorem runs_step {R C R' C' : ℕ} (A : Weight R C) (B : Weight R' C') (c : Dev nD) (k : ℕ) (hk : 512 * k + 512 ≤ R) (j : ℕ) (hj : 512 * j + 512 ≤ R')
    (s : ℕ) (hs : s + 1 ≤ 2) (gA : Held (F := F) A c) (gB : Held (F := F) B c) (K : PUnit → sProp 𝕄) :
    iprop(inFlight A c k hk s hs gA ∗ blkAt B c j hj gB ∗ bufAt A c gA k ∗ waits c)
      ⊢ iprop((iprop(inFlight B c j hj s hs gB ∗ blkAt A c k hk gA ∗ bufAt A c gA (k + 1) ∗ waits c) -∗ K ⟨⟩)
        -∗ Runs c (recv A k hk s hs) (fun _ => Runs c (start B j hj s hs) K)) := by
  unfold waits
  iintro ⟨HF, HB, Hw, HW⟩ HK
  iapply (runs_recv A c k hk s hs gA) $$ [HF Hw HW]
  · isplitl [HF]; · iexact HF
    isplitl [Hw]; · iexact Hw
    iexact HW
  iintro ⟨Hs, Hv, HA, Hw, HW⟩
  iapply (runs_start B c j hj s hs gB) $$ [HB Hs Hv]
  · isplitl [HB]; · iexact HB
    isplitl [Hs]; · iexact Hs
    iexact Hv
  iintro HF
  iapply HK
  isplitl [HF]; · iexact HF
  isplitl [HA]; · iexact HA
  isplitl [Hw]; · iexact Hw
  iexact HW

/-- Taking over a whole matrix of four blocks, and starting the first two copies of the next matrix. -/
theorem runs_prep4 {C C' R' : ℕ} (A : Weight 2048 C) (B : Weight R' C') (h0 : 512 * 0 + 512 ≤ R') (h1 : 512 * 1 + 512 ≤ R') (c : Dev nD)
    (gA : Held (F := F) A c) (gB : Held (F := F) B c) (K : PUnit → sProp 𝕄) :
    iprop(pair A c (by omega) (by omega) gA ∗ two A c 2 (by omega) (by omega) gA ∗ two B c 0 h0 h1 gB ∗ bufAt A c gA 0 ∗ waits c)
      ⊢ iprop((iprop(four A c gA ∗ pair B c h0 h1 gB ∗ bufAt A c gA 4 ∗ waits c) -∗ K ⟨⟩) -∗ Runs c (prep4 A B h0 h1) K) := by
  unfold prep4 pair four two
  simp only [wp_bind]
  iintro ⟨⟨F0, F1⟩, ⟨A2, A3⟩, ⟨B0, B1⟩, Hw, HW⟩ HK
  iapply (runs_step A A c 0 _ 2 _ 0 _ gA gA) $$ [F0 A2 Hw HW]
  · isplitl [F0]; · iexact F0
    isplitl [A2]; · iexact A2
    isplitl [Hw]; · iexact Hw
    iexact HW
  iintro ⟨F0, A0, Hw, HW⟩
  iapply (runs_step A A c 1 _ 3 _ 1 _ gA gA) $$ [F1 A3 Hw HW]
  · isplitl [F1]; · iexact F1
    isplitl [A3]; · iexact A3
    isplitl [Hw]; · iexact Hw
    iexact HW
  iintro ⟨F1, A1, Hw, HW⟩
  iapply (runs_step A B c 2 _ 0 _ 0 _ gA gB) $$ [F0 B0 Hw HW]
  · isplitl [F0]; · iexact F0
    isplitl [B0]; · iexact B0
    isplitl [Hw]; · iexact Hw
    iexact HW
  iintro ⟨F0, A2, Hw, HW⟩
  iapply (runs_step A B c 3 _ 1 _ 1 _ gA gB) $$ [F1 B1 Hw HW]
  · isplitl [F1]; · iexact F1
    isplitl [B1]; · iexact B1
    isplitl [Hw]; · iexact Hw
    iexact HW
  iintro ⟨F1, A3, Hw, HW⟩
  iapply HK
  isplitl [A0 A1 A2 A3]
  · isplitl [A0 A1]
    · isplitl [A0]; · iexact A0
      iexact A1
    isplitl [A2]; · iexact A2
    iexact A3
  isplitl [F0 F1]
  · isplitl [F0]; · iexact F0
    iexact F1
  isplitl [Hw]; · iexact Hw
  iexact HW

/-- Taking over a whole matrix of two blocks. -/
theorem runs_prep2 {C : ℕ} (A : Weight 1024 C) (c : Dev nD) (g : Held (F := F) A c) (K : PUnit → sProp 𝕄) :
    iprop(pair A c (by omega) (by omega) g ∗ bufAt A c g 0 ∗ waits c)
      ⊢ iprop((iprop(two A c 0 (by omega) (by omega) g ∗ idleSlots c ∗ bufAt A c g 2 ∗ waits c) -∗ K ⟨⟩) -∗ Runs c (prep2 A) K) := by
  unfold prep2 pair two idleSlots waits
  simp only [wp_bind]
  iintro ⟨⟨F0, F1⟩, Hw, HW⟩ HK
  iapply (runs_recv A c 0 _ 0 _ g) $$ [F0 Hw HW]
  · isplitl [F0]; · iexact F0
    isplitl [Hw]; · iexact Hw
    iexact HW
  iintro ⟨S0, V0, A0, Hw, HW⟩
  iapply (runs_recv A c 1 _ 1 _ g) $$ [F1 Hw HW]
  · isplitl [F1]; · iexact F1
    isplitl [Hw]; · iexact Hw
    iexact HW
  iintro ⟨S1, V1, A1, Hw, HW⟩
  iapply HK
  isplitl [A0 A1]
  · isplitl [A0]; · iexact A0
    iexact A1
  isplitl [S0 S1 V0 V1]
  · isplitl [S0]; · iexact S0
    isplitl [S1]; · iexact S1
    isplitl [V0]; · iexact V0
    iexact V1
  isplitl [Hw]; · iexact Hw
  iexact HW

/-- A buffer at anything is a rounded copy with no rows in place. -/
theorem bufAt_zero {R C : ℕ} (A : Weight R C) (c : Dev nD) (g : Held (F := F) A c) :
    iprop(∃ d, owns (c : Thread nD τ) A.buf fullShare d) ⊢ bufAt A c g 0 := by
  unfold bufAt owns
  iintro ⟨%d, %f, %hf, H⟩
  iexists f
  isplitl [H]; · iexact H
  ipureintro
  intro y hy
  exact absurd hy (by omega)

/-- A rounded copy with all its rows in place is the matrix rounded. -/
theorem bufAt_all {R C : ℕ} (A : Weight R C) (c : Dev nD) (g : Held (F := F) A c) (n : ℕ) (hn : R ≤ 512 * n) :
    bufAt A c g n ⊢ owns (c : Thread nD τ) A.buf fullShare (A.rounded c g) := by
  unfold bufAt owns
  iintro ⟨%f, H, %hf⟩
  iexists f
  isplitr
  · ipureintro
    refine funext fun y => hf y ?_
    have h : (y 0).val < R := (y 0).isLt
    omega
  iexact H

/-- A guarded section where the guard holds. -/
theorem runs_sec_pos {A : Type} (c : Dev nD) {b : BitVec 1} (hb : b = 1#1) (p : b = 1#1 → Pg F PUnit) (k : Pg F A) (K : A → sProp 𝕄) :
    Runs c (sec b p k) K = Runs c (p hb) (fun _ => Runs c k K) := by
  unfold sec
  rw [dif_pos hb]
  exact wp_bind _ _ _ _ _ _

/-- A guarded section where the guard fails. -/
theorem runs_sec_neg {A : Type} (c : Dev nD) {b : BitVec 1} (hb : ¬ b = 1#1) (p : b = 1#1 → Pg F PUnit) (k : Pg F A) (K : A → sProp 𝕄) :
    Runs c (sec b p k) K = Runs c k K := by
  unfold sec
  rw [dif_neg hb]

end Cert.KernelIdeal.Hand

end
-- ==== Proof.Layers.lean ====
/- What one layer does to the buffers it reads and writes. -/
module

public import proofs.«01_k».proof.Proof.Copies

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## Reading and overwriting a rectangle -/

/-- What `d` holds on a rectangle. -/
@[reducible] def on {S : Shape} {e : EltTy} (d : S.Idx → Elt F e) (r : Rect S) : r.shape.Idx → Elt F e := fun y => d (r.emb y)

/-- `d'` is `d` with the rectangle overwritten by `w`. -/
def Over {S : Shape} {e : EltTy} (d : S.Idx → Elt F e) (r : Rect S) (w : r.shape.Idx → Elt F e) (d' : S.Idx → Elt F e) : Prop :=
  on d' r = w ∧ ∀ z, z ∉ r.set → d' z = d z

/-- A load of a rectangle of a buffer that is read as `d`. -/
theorem runs_loadOn (c : Dev nD) {S : Shape} {e : EltTy} (m : Memref sig .tc .vmem S e) (r : Rect S) (hl : m.view.LoadsAt r.toLoadRect)
    (d : S.Idx → Elt F e) (K : (r.shape.Idx → Elt F e) → sProp 𝕄) :
    (owns (c : Thread nD τ) m fullShare d : sProp 𝕄)
      ⊢ iprop((owns (c : Thread nD τ) m fullShare d -∗ K (on d r)) -∗ Runs c (Prog.lift (.load m r.toLoadRect hl)) K) := by
  unfold owns
  iintro ⟨%f, %hf, H⟩ HK
  iapply (runs_load c m r.toLoadRect hl m.view.set f (load_sub _ _)) $$ H
  iintro H
  rw [show m.view.readAt (Elt F) r.toLoadRect f = on d r from by subst hf; rfl]
  iapply HK
  iexists f
  isplitr; · ipureintro; exact hf
  iexact H

/-- A store over a rectangle of a buffer that is read as `d`. -/
theorem runs_storeOn (c : Dev nD) {S : Shape} {e : EltTy} (m : Memref sig .tc .vmem S e) (r : Rect S) (w : r.shape.Idx → Elt F e)
    (hx : (m.access r).Stores Finset.univ) (hm : (Finset.univ : Finset r.shape.Idx) = Finset.univ ∨ ∀ a, r.stride a = 1)
    (d : S.Idx → Elt F e) (K : PUnit → sProp 𝕄) :
    (owns (c : Thread nD τ) m fullShare d : sProp 𝕄)
      ⊢ iprop((iprop(∃ d', owns (c : Thread nD τ) m fullShare d' ∗ ⌜Over d r w d'⌝) -∗ K ⟨⟩)
        -∗ Runs c (Prog.lift (.store m r w Finset.univ hx hm)) K) := by
  unfold owns
  iintro ⟨%f, %hf, H⟩ HK
  iapply (runs_store c m r w hx hm m.view.set f (View.set_slice_subset _ _)) $$ H
  iintro H
  iapply HK
  iexists (m.view.read (Elt F) (m.view.writes (Elt F) f [⟨r, w⟩]))
  isplitl [H]
  · iexists _
    isplitr; · ipureintro; rfl
    iexact H
  ipureintro
  refine ⟨funext fun y => View.read_writes_cons_emb _ _ _ _ _ y, fun z hz => ?_⟩
  rw [View.read_writes_cons_miss _ _ _ _ _ hz, ← hf]
  rfl

/-- One layer: the output's rectangle is overwritten by what the layer makes of the input's rectangle
    and the weights'. -/
theorem runs_layer (c : Dev nD) {sx sw so : Shape} {ex ew eo : EltTy} (X : Memref sig .tc .vmem sx ex) (rx : Rect sx)
    (W : Memref sig .tc .vmem sw ew) (rw : Rect sw) (O : Memref sig .tc .vmem so eo) (ro : Rect so)
    (hx : 0 < rx.shape.numel) (hw : 0 < rw.shape.numel) (ho : 0 < ro.shape.numel) (st : (O.access ro).Stores Finset.univ)
    (f : Vec F rx.shape ex → Vec F rw.shape ew → Vec F ro.shape eo)
    (x : sx.Idx → Elt F ex) (w : sw.Idx → Elt F ew) (o : so.Idx → Elt F eo) (K : PUnit → sProp 𝕄) :
    iprop(owns (c : Thread nD τ) X fullShare x ∗ owns (c : Thread nD τ) W fullShare w ∗ owns (c : Thread nD τ) O fullShare o)
      ⊢ iprop((iprop(owns (c : Thread nD τ) X fullShare x ∗ owns (c : Thread nD τ) W fullShare w
            ∗ ∃ o', owns (c : Thread nD τ) O fullShare o' ∗ ⌜Over o ro (f (on x rx) (on w rw)) o'⌝) -∗ K ⟨⟩)
        -∗ Runs c (layer X rx W rw O ro hx hw ho st f) K) := by
  unfold layer
  simp only [wp_bind]
  iintro ⟨HX, HW, HO⟩ HK
  iapply (runs_loadOn c X rx _ x) $$ HX
  iintro HX
  iapply (runs_loadOn c W rw _ w) $$ HW
  iintro HW
  iapply (runs_loadOn c O ro _ o) $$ HO
  iintro HO
  iapply (runs_storeOn c O ro _ _ _ o) $$ HO
  iintro HO
  iapply HK
  isplitl [HX]; · iexact HX
  isplitl [HW]; · iexact HW
  iexact HO

/-- A whole matrix read as a rectangle of itself. -/
theorem on_full (R C : ℕ) {e : EltTy} (d : (Mat R C).Idx → Elt F e) : on d (full R C) = d :=
  funext fun y => congrArg d ((full R C).emb_eq_of_coords y y fun a => by
    match a with
    | ⟨0, _⟩ => show (y 0).val = 0 + 1 * (y 0).val; omega
    | ⟨1, _⟩ => show (y 1).val = 0 + 1 * (y 1).val; omega)

/-- A whole matrix overwritten is what it is overwritten by. -/
theorem over_full {R C : ℕ} {e : EltTy} {d d' : (Mat R C).Idx → Elt F e} {w : (Mat R C).Idx → Elt F e} (h : Over d (full R C) w d') : d' = w :=
  (on_full R C d').symm.trans h.1

/-- What a two-slot buffer holds in slot `s`. -/
def sl {e : EltTy} (d : S2x512x2048.Idx → Elt F e) (s : ℕ) (hs : s + 1 ≤ 2) : S1x512x2048.Idx → Elt F e :=
  on d (slot 2048 s (le_refl _) hs)

/-- A slot at an offset the step computes is that slot. -/
theorem on_slotBy {e : EltTy} (d : S2x512x2048.Idx → Elt F e) (s : ℕ) (hs : s + 1 ≤ 2) (off : Fin 3 → Nat) (h) (ho : off = ![s, 0, 0]) :
    on d (slotBy off h) = sl d s hs := by
  subst ho
  rfl

/-- Overwriting one slot leaves the other. -/
theorem over_slotBy {e : EltTy} {d d' : S2x512x2048.Idx → Elt F e} {s : ℕ} (hs : s + 1 ≤ 2) {off : Fin 3 → Nat} {h} (ho : off = ![s, 0, 0])
    {w : S1x512x2048.Idx → Elt F e} (hd : Over d (slotBy off h) w d') :
    sl d' s hs = w ∧ ∀ s' (hs' : s' + 1 ≤ 2), s' ≠ s → sl d' s' hs' = sl d s' hs' := by
  subst ho
  refine ⟨hd.1, fun s' hs' hne => funext fun y => hd.2 _ fun hm => hne ?_⟩
  have h0 := (Rect.mem_set_unit.mp hm) 0
  have h1 : (((slot 2048 s' (le_refl _) hs').emb y) 0).val = s' := by
    have := (y 0).isLt
    show s' + 1 * (y 0).val = s'
    have h2 : (y 0).val < 1 := this
    omega
  have h3 : s ≤ (((slot 2048 s' (le_refl _) hs').emb y) 0).val := h0.1
  have h4 : (((slot 2048 s' (le_refl _) hs').emb y) 0).val < s + 1 := h0.2
  omega

end Cert.KernelIdeal.Hand

end
-- ==== Proof.Steps.lean ====
/- The guards and the slots of a step, and one guarded layer. -/
module

public import proofs.«01_k».proof.Proof.Prep
public import proofs.«01_k».proof.Proof.Layers

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-! ## The guards and the slots of a step -/

/-- The guard `step = k`, for the four steps it names. -/
theorem cEq_iff (t : Fin cfg0.N) (k : Fin 4) : cEq (grid0.coords t) (BitVec.ofNat 32 k.val) = 1#1 ↔ t.val = k.val := by
  revert t k
  decide

/-- The first layer runs at the first eight steps, -/
theorem cond3_iff (t : Fin cfg0.N) : k0_cond3 (grid0.coords t) = 1#1 ↔ t.val < 8 := by
  revert t
  decide

/-- the second at steps 1 to 8, -/
theorem cond5_iff (t : Fin cfg0.N) : k0_cond5 (grid0.coords t) = 1#1 ↔ 1 ≤ t.val ∧ t.val ≤ 8 := by
  revert t
  decide

/-- the third at steps 2 to 9, -/
theorem cond7_iff (t : Fin cfg0.N) : k0_cond7 (grid0.coords t) = 1#1 ↔ 2 ≤ t.val ∧ t.val ≤ 9 := by
  revert t
  decide

/-- and the last from step 3 on. -/
theorem cond9_iff (t : Fin cfg0.N) : k0_cond9 (grid0.coords t) = 1#1 ↔ 3 ≤ t.val := by
  revert t
  decide

/-- The first layer writes the slot of the step's parity, -/
theorem off1_eq (t : Fin cfg0.N) : k0_off1 (grid0.coords t) = ![t.val % 2, 0, 0] := by
  revert t
  decide

/-- the second reads and writes the other slot, -/
theorem off2_eq (t : Fin cfg0.N) : k0_off2 (grid0.coords t) = ![(t.val + 1) % 2, 0, 0] := by
  revert t
  decide

/-- the third the slot of the step's parity, -/
theorem off3_eq (t : Fin cfg0.N) : k0_off3 (grid0.coords t) = ![t.val % 2, 0, 0] := by
  revert t
  decide

/-- and the last reads the other slot. -/
theorem off4_eq (t : Fin cfg0.N) : k0_off4 (grid0.coords t) = ![(t.val + 1) % 2, 0, 0] := by
  revert t
  decide

/-- A slot's number is below two. -/
theorem par (n : ℕ) : n % 2 + 1 ≤ 2 := by omega

/-- A guarded layer into a slot of a two-slot buffer: where the guard holds, the slot holds what the
    layer makes; the other slot is as it was either way. -/
theorem runs_slot {A : Type} (c : Dev nD) {sx sw : Shape} {ex ew : EltTy} (X : Memref sig .tc .vmem sx ex) (W : Memref sig .tc .vmem sw ew)
    (O : Memref sig .tc .vmem S2x512x2048 .bf16) {b : BitVec 1} {off : Fin 3 → Nat} (s : ℕ) (hs : s + 1 ≤ 2) (ho : off = ![s, 0, 0])
    (rx : b = 1#1 → Rect sx) (rw : Rect sw) (hin : b = 1#1 → ∀ a, off a + S1x512x2048.size a ≤ S2x512x2048.size a)
    (hx : ∀ h, 0 < (rx h).shape.numel) (hw : 0 < rw.shape.numel) (hO : 0 < S1x512x2048.numel) (st : ∀ h, (O.access (slotBy off (hin h))).Stores Finset.univ)
    (f : ∀ h : b = 1#1, Vec F (rx h).shape ex → Vec F rw.shape ew → Vec F S1x512x2048 .bf16)
    (x : sx.Idx → Elt F ex) (w : sw.Idx → Elt F ew) (o : S2x512x2048.Idx → Elt F .bf16)
    (v : S1x512x2048.Idx → Elt F .bf16) (hv : ∀ h : b = 1#1, f h (on x (rx h)) (on w rw) = v)
    (k : Pg F A) (K : A → sProp 𝕄) :
    iprop(owns (c : Thread nD τ) X fullShare x ∗ owns (c : Thread nD τ) W fullShare w ∗ owns (c : Thread nD τ) O fullShare o)
      ⊢ iprop((iprop(owns (c : Thread nD τ) X fullShare x ∗ owns (c : Thread nD τ) W fullShare w
            ∗ ∃ o', owns (c : Thread nD τ) O fullShare o' ∗ ⌜(b = 1#1 → sl o' s hs = v) ∧ ∀ s' (hs' : s' + 1 ≤ 2), s' ≠ s → sl o' s' hs' = sl o s' hs'⌝)
          -∗ Runs c k K)
        -∗ Runs c (sec b (fun h => layer X (rx h) W rw O (slotBy off (hin h)) (hx h) hw hO (st h) (f h)) k) K) := by
  by_cases hb : b = 1#1
  · rw [runs_sec_pos c hb]
    iintro H HK
    iapply (runs_layer c X (rx hb) W rw O (slotBy off (hin hb)) (hx hb) hw hO (st hb) (f hb) x w o) $$ H
    iintro ⟨HX, HW, %o', HO, %h⟩
    iapply HK
    isplitl [HX]; · iexact HX
    isplitl [HW]; · iexact HW
    iexists o'
    isplitl [HO]; · iexact HO
    ipureintro
    have h' := over_slotBy hs ho h
    exact ⟨fun _ => h'.1.trans (hv hb), h'.2⟩
  · rw [runs_sec_neg c hb]
    iintro ⟨HX, HW, HO⟩ HK
    iapply HK
    isplitl [HX]; · iexact HX
    isplitl [HW]; · iexact HW
    iexists o
    isplitl [HO]; · iexact HO
    ipureintro
    exact ⟨fun h => absurd h hb, fun _ _ _ => rfl⟩

end Cert.KernelIdeal.Hand

end
-- ==== Proof.Carry.lean ====
/- What the kernel carries from one step to the next, and the take-over of each weight matrix at its step. -/
module

public import proofs.«01_k».proof.Proof.Steps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- What one core's kernel reads: the four weight matrices in memory, and the input's blocks. -/
structure Inp (F : FTy → Type) [FloatOps F] (c : Dev nD) where
  g1 : Held (F := F) wt1 c
  g2 : Held (F := F) wt2 c
  g3 : Held (F := F) wt3 c
  g4 : Held (F := F) wt4 c
  x : ℕ → S512x1024.Idx → Elt F .f32

section Values
variable {c : Dev nD} (I : Inp F c)

/-- The first layer's result on input block `j`, -/
def Inp.h1 (j : ℕ) : Vec F S1x512x2048 .bf16 := k0_pay14 (I.x j) (wt1.rounded c I.g1)
/-- the second's, -/
def Inp.h2 (j : ℕ) : Vec F S1x512x2048 .bf16 := k0_pay16 (I.h1 j) (wt2.rounded c I.g2)
/-- the third's, -/
def Inp.h3 (j : ℕ) : Vec F S1x512x2048 .bf16 := k0_pay18 (I.h2 j) (wt3.rounded c I.g3)
/-- and the last's. -/
def Inp.out (j : ℕ) : Vec F S512x1024 .f32 := k0_pay3 (I.h3 j) (wt4.rounded c I.g4)

/-! ## What is carried from step to step -/

/-- A rounded copy, known where `p` holds. -/
def wtAt {R C : ℕ} (A : Weight R C) (c : Dev nD) (g : Held (F := F) A c) (p : Prop) : sProp 𝕄 :=
  iprop(∃ d, owns (c : Thread nD τ) A.buf fullShare d ∗ ⌜p → d = A.rounded c g⌝)

/-- A two-slot buffer, slot `s` known where `p` holds. -/
def slAt (M : Memref sig .tc .vmem S2x512x2048 .bf16) (c : Dev nD) (s : ℕ) (hs : s + 1 ≤ 2) (v : Vec F S1x512x2048 .bf16) (p : Prop) : sProp 𝕄 :=
  iprop(∃ d, owns (c : Thread nD τ) M fullShare d ∗ ⌜p → sl d s hs = v⌝)

/-- The weights' memory, the staging buffer and its semaphores after `n` matrices are taken over: the
    next matrix's first two blocks are under way. -/
def xfer (c : Dev nD) (I : Inp F c) : ℕ → sProp 𝕄
  | 1 => iprop(four wt1 c I.g1 ∗ (pair wt2 c (by omega) (by omega) I.g2 ∗ two wt2 c 2 (by omega) (by omega) I.g2) ∗ four wt3 c I.g3
      ∗ two wt4 c 0 (by omega) (by omega) I.g4)
  | 2 => iprop(four wt1 c I.g1 ∗ four wt2 c I.g2 ∗ (pair wt3 c (by omega) (by omega) I.g3 ∗ two wt3 c 2 (by omega) (by omega) I.g3)
      ∗ two wt4 c 0 (by omega) (by omega) I.g4)
  | 3 => iprop(four wt1 c I.g1 ∗ four wt2 c I.g2 ∗ four wt3 c I.g3 ∗ pair wt4 c (by omega) (by omega) I.g4)
  | _ => iprop(four wt1 c I.g1 ∗ four wt2 c I.g2 ∗ four wt3 c I.g3 ∗ two wt4 c 0 (by omega) (by omega) I.g4 ∗ idleSlots c)

/-- Taking over the last matrix leaves everything as before the first. -/
theorem xfer_four : xfer c I 4 = xfer c I 0 := rfl

/-- A rounded copy taken over is known. -/
theorem wtAt_taken {R C : ℕ} (A : Weight R C) (c : Dev nD) (g : Held (F := F) A c) (n : ℕ) (hn : R ≤ 512 * n) :
    bufAt A c g n ⊢ wtAt A c g True := by
  unfold wtAt
  iintro H
  iexists (A.rounded c g)
  isplitl [H]; · iapply (bufAt_all A c g n hn) $$ H
  ipureintro
  exact fun _ => rfl

/-- A rounded copy, known or not, has no rows to keep. -/
theorem wtAt_drop {R C : ℕ} (A : Weight R C) (c : Dev nD) (g : Held (F := F) A c) (p : Prop) : wtAt A c g p ⊢ bufAt A c g 0 := by
  unfold wtAt
  iintro ⟨%d, H, -⟩
  iapply (bufAt_zero A c g)
  iexists d
  iexact H

/-- A rounded copy known under a condition is known under a stronger one. -/
theorem wtAt_mono {R C : ℕ} (A : Weight R C) (c : Dev nD) (g : Held (F := F) A c) {p q : Prop} (h : q → p) : wtAt A c g p ⊢ wtAt A c g q := by
  unfold wtAt
  iintro ⟨%d, H, %hd⟩
  iexists d
  isplitl [H]; · iexact H
  ipureintro
  exact fun hq => hd (h hq)

/-- A step that takes nothing over. -/
theorem runs_skip {B : Type} {R C : ℕ} (A : Weight R C) (c : Dev nD) (g : Held (F := F) A c) {p q : Prop} (h : q → p) (X : sProp 𝕄) (k : Pg F B)
    (K : B → sProp 𝕄) :
    iprop(X ∗ wtAt A c g p ∗ waits c) ⊢ iprop((iprop(X ∗ wtAt A c g q ∗ waits c) -∗ Runs c k K) -∗ Runs c k K) := by
  iintro ⟨HX, Hw, HW⟩ HK
  iapply HK
  isplitl [HX]; · iexact HX
  isplitl [Hw]; · iapply (wtAt_mono A c g h) $$ Hw
  iexact HW

/-! ## The four take-overs, at any step -/

/-- The step's guard against a number. -/
theorem guard_pos (t : Fin cfg0.N) (k : Fin 4) (h : t.val = k.val) : cEq (grid0.coords t) (BitVec.ofNat 32 k.val) = 1#1 := (cEq_iff t k).2 h
theorem guard_neg (t : Fin cfg0.N) (k : Fin 4) (h : ¬ t.val = k.val) : ¬ cEq (grid0.coords t) (BitVec.ofNat 32 k.val) = 1#1 :=
  fun h' => h ((cEq_iff t k).1 h')

/-- The first matrix is taken over at step 0. -/
theorem runs_take1 {A : Type} (t : Fin cfg0.N) (n n' : ℕ) (h : t.val = 0 → n = 0 ∧ n' = 1) (h' : t.val ≠ 0 → n' = n) (k : Pg F A) (K : A → sProp 𝕄) :
    iprop(xfer c I n ∗ wtAt wt1 c I.g1 (1 ≤ t.val) ∗ waits c)
      ⊢ iprop((iprop(xfer c I n' ∗ wtAt wt1 c I.g1 (0 ≤ t.val) ∗ waits c) -∗ Runs c k K)
        -∗ Runs c (sec (cEq (grid0.coords t) 0#32) (fun _ => kick wt1)
            (sec (cEq (grid0.coords t) 0#32) (fun _ => prep4 wt1 wt2 (by omega) (by omega)) k)) K) := by
  by_cases ht : t.val = 0
  · obtain ⟨rfl, rfl⟩ := h ht
    rw [runs_sec_pos c (show cEq (grid0.coords t) 0#32 = 1#1 from guard_pos t 0 ht), runs_sec_pos c (show cEq (grid0.coords t) 0#32 = 1#1 from guard_pos t 0 ht)]
    simp only [xfer]
    iintro ⟨⟨M1, M2, M3, M4, Hi⟩, Hw, HW⟩ HK
    unfold four
    icases M1 with ⟨M1, M1'⟩
    icases M2 with ⟨M2, M2'⟩
    iapply (runs_kick wt1 c I.g1) $$ [M1 Hi]
    · isplitl [M1]; · iexact M1
      iexact Hi
    iintro P
    iapply (runs_prep4 wt1 wt2 _ _ c I.g1 I.g2) $$ [P M1' M2 Hw HW]
    · isplitl [P]; · iexact P
      isplitl [M1']; · iexact M1'
      isplitl [M2]; · iexact M2
      isplitl [Hw]; · iapply (wtAt_drop wt1 c I.g1 _) $$ Hw
      iexact HW
    iintro ⟨M1, P, Hw, HW⟩
    iapply HK
    isplitl [M1 P M2' M3 M4]
    · isplitl [M1]; · unfold four; iexact M1
      isplitl [P M2']
      · isplitl [P]; · iexact P
        iexact M2'
      isplitl [M3]; · iexact M3
      iexact M4
    isplitl [Hw]
    · iapply (wtAt_mono wt1 c I.g1 (fun _ => trivial))
      iapply (wtAt_taken wt1 c I.g1 4 (by omega)) $$ Hw
    iexact HW
  · rw [runs_sec_neg c (show ¬ cEq (grid0.coords t) 0#32 = 1#1 from guard_neg t 0 ht), runs_sec_neg c (show ¬ cEq (grid0.coords t) 0#32 = 1#1 from guard_neg t 0 ht), h' ht]
    exact runs_skip wt1 c _ (fun _ => by omega) _ k K

/-- The second is taken over at step 1. -/
theorem runs_take2 {A : Type} (t : Fin cfg0.N) (n n' : ℕ) (h : t.val = 1 → n = 1 ∧ n' = 2) (h' : t.val ≠ 1 → n' = n) (k : Pg F A) (K : A → sProp 𝕄) :
    iprop(xfer c I n ∗ wtAt wt2 c I.g2 (2 ≤ t.val) ∗ waits c)
      ⊢ iprop((iprop(xfer c I n' ∗ wtAt wt2 c I.g2 (1 ≤ t.val) ∗ waits c) -∗ Runs c k K)
        -∗ Runs c (sec (cEq (grid0.coords t) 1#32) (fun _ => prep4 wt2 wt3 (by omega) (by omega)) k) K) := by
  by_cases ht : t.val = 1
  · obtain ⟨rfl, rfl⟩ := h ht
    rw [runs_sec_pos c (show cEq (grid0.coords t) 1#32 = 1#1 from guard_pos t 1 ht)]
    simp only [xfer]
    iintro ⟨⟨M1, ⟨P, M2'⟩, M3, M4⟩, Hw, HW⟩ HK
    unfold four
    icases M3 with ⟨M3, M3'⟩
    iapply (runs_prep4 wt2 wt3 _ _ c I.g2 I.g3) $$ [P M2' M3 Hw HW]
    · isplitl [P]; · iexact P
      isplitl [M2']; · iexact M2'
      isplitl [M3]; · iexact M3
      isplitl [Hw]; · iapply (wtAt_drop wt2 c I.g2 _) $$ Hw
      iexact HW
    iintro ⟨M2, P, Hw, HW⟩
    iapply HK
    isplitl [M1 M2 P M3' M4]
    · isplitl [M1]; · iexact M1
      isplitl [M2]; · unfold four; iexact M2
      isplitl [P M3']
      · isplitl [P]; · iexact P
        iexact M3'
      iexact M4
    isplitl [Hw]
    · iapply (wtAt_mono wt2 c I.g2 (fun _ => trivial))
      iapply (wtAt_taken wt2 c I.g2 4 (by omega)) $$ Hw
    iexact HW
  · rw [runs_sec_neg c (show ¬ cEq (grid0.coords t) 1#32 = 1#1 from guard_neg t 1 ht), h' ht]
    exact runs_skip wt2 c _ (fun _ => by omega) _ k K

/-- The third is taken over at step 2. -/
theorem runs_take3 {A : Type} (t : Fin cfg0.N) (n n' : ℕ) (h : t.val = 2 → n = 2 ∧ n' = 3) (h' : t.val ≠ 2 → n' = n) (k : Pg F A) (K : A → sProp 𝕄) :
    iprop(xfer c I n ∗ wtAt wt3 c I.g3 (3 ≤ t.val) ∗ waits c)
      ⊢ iprop((iprop(xfer c I n' ∗ wtAt wt3 c I.g3 (2 ≤ t.val) ∗ waits c) -∗ Runs c k K)
        -∗ Runs c (sec (cEq (grid0.coords t) 2#32) (fun _ => prep4 wt3 wt4 (by omega) (by omega)) k) K) := by
  by_cases ht : t.val = 2
  · obtain ⟨rfl, rfl⟩ := h ht
    rw [runs_sec_pos c (show cEq (grid0.coords t) 2#32 = 1#1 from guard_pos t 2 ht)]
    simp only [xfer]
    iintro ⟨⟨M1, M2, ⟨P, M3'⟩, M4⟩, Hw, HW⟩ HK
    iapply (runs_prep4 wt3 wt4 _ _ c I.g3 I.g4) $$ [P M3' M4 Hw HW]
    · isplitl [P]; · iexact P
      isplitl [M3']; · iexact M3'
      isplitl [M4]; · iexact M4
      isplitl [Hw]; · iapply (wtAt_drop wt3 c I.g3 _) $$ Hw
      iexact HW
    iintro ⟨M3, P, Hw, HW⟩
    iapply HK
    isplitl [M1 M2 M3 P]
    · isplitl [M1]; · iexact M1
      isplitl [M2]; · iexact M2
      isplitl [M3]; · iexact M3
      iexact P
    isplitl [Hw]
    · iapply (wtAt_mono wt3 c I.g3 (fun _ => trivial))
      iapply (wtAt_taken wt3 c I.g3 4 (by omega)) $$ Hw
    iexact HW
  · rw [runs_sec_neg c (show ¬ cEq (grid0.coords t) 2#32 = 1#1 from guard_neg t 2 ht), h' ht]
    exact runs_skip wt3 c _ (fun _ => by omega) _ k K

/-- The last is taken over at step 3. -/
theorem runs_take4 {A : Type} (t : Fin cfg0.N) (n n' : ℕ) (h : t.val = 3 → n = 3 ∧ n' = 4) (h' : t.val ≠ 3 → n' = n) (k : Pg F A) (K : A → sProp 𝕄) :
    iprop(xfer c I n ∗ wtAt wt4 c I.g4 (4 ≤ t.val) ∗ waits c)
      ⊢ iprop((iprop(xfer c I n' ∗ wtAt wt4 c I.g4 (3 ≤ t.val) ∗ waits c) -∗ Runs c k K)
        -∗ Runs c (sec (cEq (grid0.coords t) 3#32) (fun _ => prep2 wt4) k) K) := by
  by_cases ht : t.val = 3
  · obtain ⟨rfl, rfl⟩ := h ht
    rw [runs_sec_pos c (show cEq (grid0.coords t) 3#32 = 1#1 from guard_pos t 3 ht)]
    simp only [xfer]
    iintro ⟨⟨M1, M2, M3, P⟩, Hw, HW⟩ HK
    iapply (runs_prep2 wt4 c I.g4) $$ [P Hw HW]
    · isplitl [P]; · iexact P
      isplitl [Hw]; · iapply (wtAt_drop wt4 c I.g4 _) $$ Hw
      iexact HW
    iintro ⟨M4, Hi, Hw, HW⟩
    iapply HK
    isplitl [M1 M2 M3 M4 Hi]
    · isplitl [M1]; · iexact M1
      isplitl [M2]; · iexact M2
      isplitl [M3]; · iexact M3
      isplitl [M4]; · iexact M4
      iexact Hi
    isplitl [Hw]
    · iapply (wtAt_mono wt4 c I.g4 (fun _ => trivial))
      iapply (wtAt_taken wt4 c I.g4 2 (by omega)) $$ Hw
    iexact HW
  · rw [runs_sec_neg c (show ¬ cEq (grid0.coords t) 3#32 = 1#1 from guard_neg t 3 ht), h' ht]
    exact runs_skip wt4 c _ (fun _ => by omega) _ k K

end Values

end Cert.KernelIdeal.Hand

end
-- ==== Proof.Step.lean ====
/- One step of the kernel: what it takes over, computes and leaves. -/
module

public import proofs.«01_k».proof.Proof.Carry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Step
variable {c : Dev nD} (I : Inp F c)

/-- What is carried into step `p`: each rounded copy once its matrix is taken over, each layer's last
    result in its slot, and the copies under way. -/
def Inv (c : Dev nD) (I : Inp F c) (p : ℕ) : sProp 𝕄 :=
  iprop(wtAt wt1 c I.g1 (1 ≤ p) ∗ wtAt wt2 c I.g2 (2 ≤ p) ∗ wtAt wt3 c I.g3 (3 ≤ p) ∗ wtAt wt4 c I.g4 (4 ≤ p)
    ∗ slAt scH1 c ((p + 1) % 2) (par _) (I.h1 (p - 1)) (1 ≤ p ∧ p ≤ 8)
    ∗ slAt scH2 c (p % 2) (par _) (I.h2 (p - 2)) (2 ≤ p ∧ p ≤ 9)
    ∗ slAt scH3 c ((p + 1) % 2) (par _) (I.h3 (p - 3)) (3 ≤ p ∧ p ≤ 10)
    ∗ xfer c I (min p 4))

/-- A slot by either of two equal numbers. -/
theorem sl_congr {e : EltTy} (d : S2x512x2048.Idx → Elt F e) {s s' : ℕ} (hs : s + 1 ≤ 2) (hs' : s' + 1 ≤ 2) (h : s = s') : sl d s hs = sl d s' hs' := by
  subst h
  rfl

/-- The last layer, guarded: the output block holds the last layer's result where the guard holds, and
    what it held before otherwise. -/
theorem runs_last (t : Fin cfg0.N) (arg6 : Memref sig .tc .vmem S512x1024 .f32) (d3 : S2x512x2048.Idx → Elt F .bf16) (w : S1024x2048.Idx → Elt F .bf16)
    (hd : 3 ≤ t.val → sl d3 ((t.val + 1) % 2) (par _) = I.h3 (t.val - 3)) (hw : 3 ≤ t.val → w = wt4.rounded c I.g4)
    (o : S512x1024.Idx → Elt F .f32) (K : PUnit → sProp 𝕄) :
    iprop(owns (c : Thread nD τ) scH3 fullShare d3 ∗ owns (c : Thread nD τ) scW4 fullShare w ∗ owns (c : Thread nD τ) arg6 fullShare o)
      ⊢ iprop((iprop(owns (c : Thread nD τ) scH3 fullShare d3 ∗ owns (c : Thread nD τ) scW4 fullShare w
            ∗ ∃ o', owns (c : Thread nD τ) arg6 fullShare o' ∗ ⌜(3 ≤ t.val → o' = I.out (t.val - 3)) ∧ (¬ 3 ≤ t.val → o' = o)⌝) -∗ K ⟨⟩)
        -∗ Runs c (sec (k0_cond9 (grid0.coords t)) (fun h => layer4 (grid0.coords t) arg6 h) (pure ⟨⟩)) K) := by
  by_cases ht : 3 ≤ t.val
  · rw [runs_sec_pos c ((cond9_iff t).2 ht)]
    unfold layer4
    iintro H HK
    iapply (runs_layer c scH3 (slotBy (k0_off4 (grid0.coords t)) _) scW4 (full 1024 2048) arg6 (full 512 1024) _ _ _ _ _ d3 w o) $$ H
    iintro ⟨H3, H4, %o', HO, %ho⟩
    rw [show Runs (F := F) c (pure ⟨⟩) K = iprop(|={Set.univ}[frame]=> K ⟨⟩) from rfl]
    imodintro
    iapply HK
    isplitl [H3]; · iexact H3
    isplitl [H4]; · iexact H4
    iexists o'
    isplitl [HO]; · iexact HO
    ipureintro
    refine ⟨fun _ => (over_full ho).trans ?_, fun h => absurd ht h⟩
    unfold Inp.out
    rw [← hd ht, ← hw ht, ← on_slotBy d3 _ (par _) _ (k0_off4_inb (grid0.coords t) ((cond9_iff t).2 ht)) (off4_eq t)]
    exact congrArg _ (on_full 1024 2048 w)
  · rw [runs_sec_neg c (fun h => ht ((cond9_iff t).1 h))]
    iintro ⟨H3, H4, HO⟩ HK
    rw [show Runs (F := F) c (pure ⟨⟩) K = iprop(|={Set.univ}[frame]=> K ⟨⟩) from rfl]
    imodintro
    iapply HK
    isplitl [H3]; · iexact H3
    isplitl [H4]; · iexact H4
    iexists o
    isplitl [HO]; · iexact HO
    ipureintro
    exact ⟨fun h => absurd h ht, fun _ => rfl⟩

/-- One step of the kernel. -/
theorem runs_body (t : Fin cfg0.N) (arg1 arg6 : Memref sig .tc .vmem S512x1024 .f32) (o : S512x1024.Idx → Elt F .f32) (K : PUnit → sProp 𝕄) :
    iprop(owns (c : Thread nD τ) arg1 fullShare (I.x t.val) ∗ Inv c I t.val ∗ waits c ∗ owns (c : Thread nD τ) arg6 fullShare o)
      ⊢ iprop((iprop(owns (c : Thread nD τ) arg1 fullShare (I.x t.val) ∗ Inv c I (t.val + 1) ∗ waits c
            ∗ ∃ o', owns (c : Thread nD τ) arg6 fullShare o' ∗ ⌜(3 ≤ t.val → o' = I.out (t.val - 3)) ∧ (¬ 3 ≤ t.val → o' = o)⌝) -∗ K ⟨⟩)
        -∗ Runs c (body (grid0.coords t) arg1 arg6) K) := by
  have hN : t.val < 11 := t.isLt
  unfold Inv body head
  iintro ⟨HX, ⟨W1, W2, W3, W4, L1, L2, L3, HT⟩, HW, HO⟩ HK
  -- the first matrix
  iapply (runs_take1 I t (min t.val 4) (max 1 (min t.val 4)) (by omega) (by omega)) $$ [HT W1 HW]
  · isplitl [HT]; · iexact HT
    isplitl [W1]; · iexact W1
    iexact HW
  iintro ⟨HT, W1, HW⟩
  unfold wtAt slAt
  icases W1 with ⟨%w1, W1, %hw1⟩
  icases L1 with ⟨%d1, L1, %hd1⟩
  have e1 : w1 = wt1.rounded c I.g1 := hw1 (Nat.zero_le _)
  -- the first layer
  unfold layer1
  iapply (runs_slot c arg1 scW1 scH1 (t.val % 2) (par _) (off1_eq t) _ _ _ _ _ _ _ _ (I.x t.val) w1 d1 (I.h1 t.val)
    (by intro h; rw [e1]; exact congrArg₂ k0_pay14 (on_full 512 1024 _) (on_full 2048 1024 _))) $$ [HX W1 L1]
  · isplitl [HX]; · iexact HX
    isplitl [W1]; · iexact W1
    iexact L1
  iintro ⟨HX, W1, %d1', L1, %hd1'⟩
  -- the second matrix
  iapply (runs_take2 I t (max 1 (min t.val 4)) (if t.val = 0 then 1 else max 2 (min t.val 4)) (by split <;> omega) (by split <;> omega)) $$ [HT W2 HW]
  · isplitl [HT]; · iexact HT
    isplitl [W2]; · unfold wtAt; iexact W2
    iexact HW
  iintro ⟨HT, W2, HW⟩
  unfold wtAt
  icases W2 with ⟨%w2, W2, %hw2⟩
  icases L2 with ⟨%d2, L2, %hd2⟩
  -- the second layer
  unfold layer2
  iapply (runs_slot c scH1 scW2 scH2 ((t.val + 1) % 2) (par _) (off2_eq t) _ _ _ _ _ _ _ _ d1' w2 d2 (I.h2 (t.val - 1))
    (by
      intro h
      have hb := (cond5_iff t).1 h
      rw [hw2 hb.1]
      refine congrArg₂ k0_pay16 ?_ (on_full 2048 2048 _)
      exact ((on_slotBy d1' _ (par _) _ (k0_off2_inb (grid0.coords t) h) (off2_eq t)).trans (hd1'.2 _ (par _) (by omega))).trans (hd1 hb))) $$ [L1 W2 L2]
  · isplitl [L1]; · iexact L1
    isplitl [W2]; · iexact W2
    iexact L2
  iintro ⟨L1, W2, %d2', L2, %hd2'⟩
  -- the third matrix
  iapply (runs_take3 I t (if t.val = 0 then 1 else max 2 (min t.val 4)) (if t.val ≤ 1 then t.val + 1 else max 3 (min t.val 4))
    (by split <;> split <;> omega) (by split <;> split <;> omega)) $$ [HT W3 HW]
  · isplitl [HT]; · iexact HT
    isplitl [W3]; · unfold wtAt; iexact W3
    iexact HW
  iintro ⟨HT, W3, HW⟩
  unfold wtAt
  icases W3 with ⟨%w3, W3, %hw3⟩
  icases L3 with ⟨%d3, L3, %hd3⟩
  -- the third layer
  unfold layer3
  iapply (runs_slot c scH2 scW3 scH3 (t.val % 2) (par _) (off3_eq t) _ _ _ _ _ _ _ _ d2' w3 d3 (I.h3 (t.val - 2))
    (by
      intro h
      have hb := (cond7_iff t).1 h
      rw [hw3 hb.1]
      refine congrArg₂ k0_pay18 ?_ (on_full 2048 2048 _)
      exact ((on_slotBy d2' _ (par _) _ (k0_off3_inb (grid0.coords t) h) (off3_eq t)).trans (hd2'.2 _ (par _) (by omega))).trans (hd2 hb))) $$ [L2 W3 L3]
  · isplitl [L2]; · iexact L2
    isplitl [W3]; · iexact W3
    iexact L3
  iintro ⟨L2, W3, %d3', L3, %hd3'⟩
  -- the last matrix
  iapply (runs_take4 I t (if t.val ≤ 1 then t.val + 1 else max 3 (min t.val 4)) (min (t.val + 1) 4)
    (by split <;> omega) (by split <;> omega)) $$ [HT W4 HW]
  · isplitl [HT]; · iexact HT
    isplitl [W4]; · unfold wtAt; iexact W4
    iexact HW
  iintro ⟨HT, W4, HW⟩
  unfold wtAt
  icases W4 with ⟨%w4, W4, %hw4⟩
  -- the last layer
  iapply (runs_last I t arg6 d3' w4 (fun h => (hd3'.2 _ (par _) (by omega)).trans (hd3 ⟨h, by omega⟩)) hw4 o) $$ [L3 W4 HO]
  · isplitl [L3]; · iexact L3
    isplitl [W4]; · iexact W4
    iexact HO
  iintro ⟨L3, W4, HO⟩
  iapply HK
  isplitl [HX]; · iexact HX
  isplitr [HW HO]
  · isplitl [W1]; · iexists w1; isplitl [W1]; · iexact W1
                    ipureintro; exact fun _ => e1
    isplitl [W2]; · iexists w2; isplitl [W2]; · iexact W2
                    ipureintro; exact fun h => hw2 (by omega)
    isplitl [W3]; · iexists w3; isplitl [W3]; · iexact W3
                    ipureintro; exact fun h => hw3 (by omega)
    isplitl [W4]; · iexists w4; isplitl [W4]; · iexact W4
                    ipureintro; exact fun h => hw4 (by omega)
    isplitl [L1]; · iexists d1'; isplitl [L1]; · iexact L1
                    ipureintro; exact fun h => (sl_congr d1' _ _ (by omega)).trans (hd1'.1 ((cond3_iff t).2 (by omega)))
    isplitl [L2]; · iexists d2'; isplitl [L2]; · iexact L2
                    ipureintro; exact fun h => hd2'.1 ((cond5_iff t).2 (by omega))
    isplitl [L3]; · iexists d3'; isplitl [L3]; · iexact L3
                    ipureintro; exact fun h => (sl_congr d3' _ _ (by omega)).trans (hd3'.1 ((cond7_iff t).2 (by omega)))
    iexact HT
  isplitl [HW]; · iexact HW
  iexact HO

end Step

end Cert.KernelIdeal.Hand

end
-- ==== Proof.Homes.lean ====
/- The weights' memory and the staging buffer, whole and in blocks. -/
module

public import proofs.«01_k».proof.Proof.Step

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Weights
variable {R C : ℕ} (A : Weight R C)

/-- The elements of block `k` are the matrix's elements on the block's rows. -/
theorem blk_set (k : ℕ) (hk : 512 * k + 512 ≤ R) : (A.blk k hk).view.set = A.arr.view.setOn (rows R C k hk).set :=
  View.set_slice _ _

/-- A matrix in memory is its blocks of 512 rows. -/
theorem blocks_eq (c : Dev nD) (n : ℕ) (hn : n * 512 = R) (g : Held (F := F) A c) :
    (A.arr.view.loc (c : Thread nD τ) ↦[A.arr.view.set]{fullShare} g : sProp 𝕄)
      = bigSep Finset.univ fun b : Fin n => blkAt A c b.val (by have := b.isLt; omega) g := by
  have hle : ∀ b : Fin n, 512 * b.val + 512 ≤ R := fun b => by have := b.isLt; omega
  have hoff : ∀ (b : Fin n) (a : Fin (Mat R C).rank), a ≠ 0 → (![512 * b.val, 0] : Fin 2 → ℕ) a = 0 := fun b a ha => by
    match a with
    | ⟨0, _⟩ => exact absurd rfl ha
    | ⟨1, _⟩ => rfl
  have hsz : ∀ a : Fin (Mat R C).rank, a ≠ 0 → (Mat 512 C).size a = (Mat R C).size a := fun a ha => by
    match a with
    | ⟨0, _⟩ => exact absurd rfl ha
    | ⟨1, _⟩ => rfl
  rw [Ring.pointsTo_sub_blocks (ℓ := A.arr.view.loc (c : Thread nD τ)) (fun b : Fin n => A.arr.view.setOn (rows R C b.val (hle b)).set)
    (fun b b' h => Finset.disjoint_map _ |>.mpr (Ring.lead_disjoint (s := Mat R C) 0 512 (fun b : Fin n => ![512 * b.val, 0]) (Mat 512 C).size
      (fun b => rows_inb R C b.val (hle b)) (fun _ => rfl) rfl b b' h)) A.arr.view.set
    (by
      have h := Ring.lead_cover (s := Mat R C) 0 512 (fun b : Fin n => ![512 * b.val, 0]) (Mat 512 C).size
        (fun b => rows_inb R C b.val (hle b)) (fun _ => rfl) hoff rfl hsz hn
      ext i
      simp only [Finset.mem_biUnion, Finset.mem_univ, _root_.true_and]
      constructor
      · rintro ⟨b, hb⟩
        exact View.setOn_subset_set _ _ hb
      · intro hi
        obtain ⟨y, -, rfl⟩ := Finset.mem_map.1 hi
        have hy : y ∈ Finset.univ.biUnion (fun b : Fin n => (rows R C b.val (hle b)).set) := h ▸ Finset.mem_univ y
        obtain ⟨b, -, hb⟩ := Finset.mem_biUnion.1 hy
        exact ⟨b, Finset.mem_map_of_mem _ hb⟩)]
  refine congrArg (bigSep Finset.univ) (funext fun b => ?_)
  unfold blkAt
  rw [blk_set]
  rfl

end Weights

/-- A matrix of 2048 rows is its four blocks, -/
theorem whole_four {C : ℕ} (A : Weight 2048 C) (c : Dev nD) (g : Held (F := F) A c) :
    (A.arr.view.loc (c : Thread nD τ) ↦[A.arr.view.set]{fullShare} g : sProp 𝕄) = four A c g := by
  rw [blocks_eq A c 4 rfl g, BI.bigSep_eq_bigSepL_of_eq [0, 1, 2, 3] (by decide) (by decide)]
  unfold four two
  refine BI.equiv_iff.1 ⟨?_, ?_⟩
  · show iprop(blkAt A c 0 _ g ∗ blkAt A c 1 _ g ∗ blkAt A c 2 _ g ∗ blkAt A c 3 _ g) ⊢ _
    iintro ⟨B0, B1, B2, B3⟩
    isplitl [B0 B1]
    · isplitl [B0]; · iexact B0
      iexact B1
    isplitl [B2]; · iexact B2
    iexact B3
  · show _ ⊢ iprop(blkAt A c 0 _ g ∗ blkAt A c 1 _ g ∗ blkAt A c 2 _ g ∗ blkAt A c 3 _ g)
    iintro ⟨⟨B0, B1⟩, B2, B3⟩
    isplitl [B0]; · iexact B0
    isplitl [B1]; · iexact B1
    isplitl [B2]; · iexact B2
    iexact B3

/-- and one of 1024 rows its two. -/
theorem whole_two {C : ℕ} (A : Weight 1024 C) (c : Dev nD) (g : Held (F := F) A c) :
    (A.arr.view.loc (c : Thread nD τ) ↦[A.arr.view.set]{fullShare} g : sProp 𝕄) = two A c 0 (by omega) (by omega) g := by
  rw [blocks_eq A c 2 rfl g, BI.bigSep_eq_bigSepL_of_eq [0, 1] (by decide) (by decide)]
  rfl

/-- The staging buffer's two slots as element sets. -/
def stSet (s : Fin 2) : Finset scSt.view.ty.Idx := slotSet s.val (by have := s.isLt; omega)

/-- The two slots of the staging buffer share nothing. -/
theorem stSet_disjoint (s s' : Fin 2) (h : s ≠ s') : Disjoint (stSet s) (stSet s') := by
  exact Finset.disjoint_map _ |>.mpr (Ring.lead_disjoint (s := S2x512x2048) 0 1 (fun b : Fin 2 => ![b.val, 0, 0]) (Slab 2048).size
    (fun b => slot_inb 2048 b.val (by omega) (by have := b.isLt; omega)) (fun b => (Nat.one_mul _).symm) rfl s s' h)

/-- Together they are the whole staging buffer. -/
theorem stSet_cover : Finset.univ.biUnion stSet = Finset.univ := by
  have h := Ring.lead_cover (s := S2x512x2048) 0 1 (fun b : Fin 2 => ![b.val, 0, 0]) (Slab 2048).size
    (fun b => slot_inb 2048 b.val (by omega) (by have := b.isLt; omega)) (fun b => (Nat.one_mul _).symm)
    (fun b a ha => by
      match a with
      | ⟨0, _⟩ => exact absurd rfl ha
      | ⟨1, _⟩ => rfl
      | ⟨2, _⟩ => rfl) rfl
    (fun a ha => by
      match a with
      | ⟨0, _⟩ => exact absurd rfl ha
      | ⟨1, _⟩ => rfl
      | ⟨2, _⟩ => rfl) rfl
  ext i
  simp only [Finset.mem_biUnion, Finset.mem_univ, _root_.true_and, iff_true]
  have hi : i ∈ scSt.view.set := by rw [View.set_whole]; exact Finset.mem_univ i
  obtain ⟨y, -, rfl⟩ := Finset.mem_map.1 hi
  have hy : y ∈ Finset.univ.biUnion (fun b : Fin 2 => (slot 2048 b.val (by omega) (by have := b.isLt; omega)).set) := h ▸ Finset.mem_univ y
  obtain ⟨b, -, hb⟩ := Finset.mem_biUnion.1 hy
  exact ⟨b, Finset.mem_map_of_mem _ hb⟩

/-- The staging buffer is its two slots. -/
theorem slots_eq (c : Dev nD) (f : Buf (Elt F) (scSt.view.loc (c : Thread nD τ))) :
    (scSt.view.loc (c : Thread nD τ) ↦{fullShare} f : sProp 𝕄)
      = iprop((scSt.view.loc (c : Thread nD τ) ↦[stSet 0]{fullShare} f) ∗ (scSt.view.loc (c : Thread nD τ) ↦[stSet 1]{fullShare} f)) := by
  rw [Ring.pointsTo_blocks (ℓ := scSt.view.loc (c : Thread nD τ)) stSet stSet_disjoint stSet_cover f,
    BI.bigSep_eq_bigSepL_of_eq [0, 1] (by decide) (by decide)]
  rfl

/-- The staging buffer at anything is its two slots at anything, -/
theorem slots_split (c : Dev nD) :
    (iprop(∃ f, scSt.view.loc (c : Thread nD τ) ↦{fullShare} f) : sProp 𝕄) ⊢ iprop(slotAt c 0 (by omega) ∗ slotAt c 1 (by omega)) := by
  iintro ⟨%f, H⟩
  ihave H2 := (Entails.of_eq (slots_eq c f)) $$ H
  icases H2 with ⟨H0, H1⟩
  unfold slotAt
  isplitl [H0]; · iexists f; iexact H0
  iexists f
  iexact H1

/-- and back. -/
theorem slots_join (c : Dev nD) :
    iprop(slotAt (F := F) c 0 (by omega) ∗ slotAt c 1 (by omega)) ⊢ (iprop(∃ f, scSt.view.loc (c : Thread nD τ) ↦{fullShare} f) : sProp 𝕄) := by
  refine Entails.trans (Entails.of_eq ?_) (Ring.pointsTo_blocks_join_exists (ℓ := scSt.view.loc (c : Thread nD τ)) stSet stSet_disjoint stSet_cover scSt.view.junk)
  rw [BI.bigSep_eq_bigSepL_of_eq [0, 1] (by decide) (by decide)]
  rfl

end Cert.KernelIdeal.Hand

end
-- ==== Proof.Body.lean ====
/- The printed kernel is the sequence of its sections. -/
module

public import proofs.«01_k».proof.Proof.Sections

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]

/-- The values the first part of the printed kernel hands on: the step, the next step's parity, and
    the guard of the last weights' step. -/
def handed (i : grid0.Coords) : Σ' (_ : BitVec 32) (_ : BitVec 32), BitVec 1 :=
  ⟨BitVec.ofNat 32 (i 0).val, Scalar.remsi (Scalar.addi (BitVec.ofNat 32 (i 0).val) 1#32) 2#32, cEq i 3#32⟩

/-- The first part of the printed kernel on the launch's buffers is its first seven sections. -/
theorem part_eq (i : grid0.Coords) (arg1 arg6 : Memref sig .tc .vmem S512x1024 .f32) (h1 : arg1.IsWhole) (h6 : arg6.IsWhole) :
    k0_part7 (F := F) i arg1 h1 (Memref.whole main_arg1) (Memref.isWhole_whole _) (Memref.whole main_arg2) (Memref.isWhole_whole _)
      (Memref.whole main_arg3) (Memref.isWhole_whole _) (Memref.whole main_arg4) (Memref.isWhole_whole _) arg6 h6
      scW1 (Memref.isWhole_whole _) scW2 (Memref.isWhole_whole _) scW3 (Memref.isWhole_whole _) scW4 (Memref.isWhole_whole _)
      scH1 (Memref.isWhole_whole _) scH2 (Memref.isWhole_whole _) scH3 (Memref.isWhole_whole _) scSt (Memref.isWhole_whole _)
      cc0_scratch8 = head i arg1 (pure (handed i)) := by
  sl_kernel_rfl

/-- The printed kernel on the launch's buffers is its nine sections, run in order. -/
theorem body_eq (i : grid0.Coords) (arg1 arg6 : Memref sig .tc .vmem S512x1024 .f32) (h1 : arg1.IsWhole) (h6 : arg6.IsWhole) :
    cc0__mlp_kernel (F := F) i arg1 h1 (Memref.whole main_arg1) (Memref.isWhole_whole _) (Memref.whole main_arg2) (Memref.isWhole_whole _)
      (Memref.whole main_arg3) (Memref.isWhole_whole _) (Memref.whole main_arg4) (Memref.isWhole_whole _) arg6 h6
      scW1 (Memref.isWhole_whole _) scW2 (Memref.isWhole_whole _) scW3 (Memref.isWhole_whole _) scW4 (Memref.isWhole_whole _)
      scH1 (Memref.isWhole_whole _) scH2 (Memref.isWhole_whole _) scH3 (Memref.isWhole_whole _) scSt (Memref.isWhole_whole _)
      cc0_scratch8 = body i arg1 arg6 := by
  rw [cc0__mlp_kernel_eq_skeleton]
  unfold cc0__mlp_kernel_skel body
  rw [part_eq, head_bind]
  refine congrArg (head i arg1) ?_
  sl_kernel_rfl

end Cert.KernelIdeal.Hand

end
-- ==== Proof.Run.lean ====
/- The kernel's run: what the launch hands it, its pipeline, what it leaves. -/
module

public import proofs.«01_k».proof.Proof.Homes
public import proofs.«01_k».proof.Proof.Body
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the kernel's core finds in memory: the four matrices, and the input block of each step. -/
def inp (c : Dev nD) : Inp F c where
  g1 := V m c main_arg1
  g2 := V m c main_arg2
  g3 := V m c main_arg3
  g4 := V m c main_arg4
  x j := iblk m c 0 ⟨min j 10, lt_of_le_of_lt (min_le_right _ _) (by decide : 10 < 11)⟩

/-- The call reads the arrays as they were launched. -/
theorem launch_main (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-! ## The kernel's own buffers, semaphores and matrices -/

/-- The kernel's two copy semaphores. -/
abbrev ownSem : Fin 2 → SemLoc sig := fun j => (![SemLoc.dma 4, SemLoc.dma 5] : Fin 2 → SemLoc sig) j

/-- The copy semaphores are not the pipeline's. -/
theorem ownSem_facts : Pipeline.OwnSemFacts spec0 ownSem := by decide

/-- Both of them, at zero. -/
theorem ownSem_eq (c : Dev nD) :
    (Pipeline.ownSems0 (Ix := Unit) (Name := ℕ) (U := Pipeline.UD sig nD τ) (Lvl := ℕ) (Val := Elt F) (τ := τ) ownSem c : sProp 𝕄)
      = iprop(semAt c 0 (by omega) ∗ semAt c 1 (by omega)) := by
  rw [Pipeline.ownSems0_eq_of_list c ownSem [0, 1] (by decide) (by decide)]
  rfl

/-- The four matrices in memory. -/
def mats : Finset (Ref sig .tc) := {main_arg1, main_arg2, main_arg3, main_arg4}

/-- No window is over one of the four matrices. -/
theorem mats_sub : mats ⊆ Pipeline.restRefs sig spec0 := by decide

/-- The four matrices in memory, each as its 512-row pieces. -/
theorem mats_eq (c : Dev nD) :
    (bigSep mats (fun b => ((c : Thread nD τ).loc b) ↦{fullShare} V m c b) : sProp 𝕄)
      = iprop(four wt1 c (inp m c).g1 ∗ four wt2 c (inp m c).g2 ∗ four wt3 c (inp m c).g3 ∗ two wt4 c 0 (by omega) (by omega) (inp m c).g4) := by
  rw [BI.bigSep_eq_bigSepL_of_eq [main_arg1, main_arg2, main_arg3, main_arg4] (by decide) (by decide),
    ← whole_four wt1 c (inp m c).g1, ← whole_four wt2 c (inp m c).g2, ← whole_four wt3 c (inp m c).g3, ← whole_two wt4 c (inp m c).g4]
  simp only [View.set_whole, Memref.view_whole]
  rfl

/-- What the launch hands the kernel beside its windows. -/
theorem own_eq (c : Dev nD) :
    (Pipeline.ΦD ownSem spec0 mats (V m) c : sProp 𝕄)
      = iprop(iprop((∃ d, owns (c : Thread nD τ) scW1 fullShare d) ∗ (∃ d, owns (c : Thread nD τ) scW2 fullShare d)
            ∗ (∃ d, owns (c : Thread nD τ) scW3 fullShare d) ∗ (∃ d, owns (c : Thread nD τ) scW4 fullShare d)
            ∗ (∃ d, owns (c : Thread nD τ) scH1 fullShare d) ∗ (∃ d, owns (c : Thread nD τ) scH2 fullShare d)
            ∗ (∃ d, owns (c : Thread nD τ) scH3 fullShare d) ∗ (∃ f, scSt.view.loc (c : Thread nD τ) ↦{fullShare} f))
          ∗ (∃ r, prngReg c r)
          ∗ iprop(semAt c 0 (by omega) ∗ semAt c 1 (by omega))
          ∗ iprop(four wt1 c (inp m c).g1 ∗ four wt2 c (inp m c).g2 ∗ four wt3 c (inp m c).g3 ∗ two wt4 c 0 (by omega) (by omega) (inp m c).g4)) := by
  rw [Pipeline.ΦD_eq, scopedRest0_eq, ownSem_eq, mats_eq]
  simp only [owns_whole]
  rfl

/-- What the kernel carries from step to step. -/
def carried (c : Dev nD) (p : ℕ) : sProp 𝕄 := iprop(Inv c (inp m c) p ∗ ∃ r, prngReg c r)

/-- Before the first step nothing is known of the kernel's buffers. -/
theorem carried_in (c : Dev nD) : (Pipeline.ΦD ownSem spec0 mats (V m) c : sProp 𝕄) ⊢ carried m c 0 := by
  rw [own_eq]
  unfold carried Inv wtAt slAt
  simp only [Nat.zero_min, xfer]
  unfold idleSlots
  iintro ⟨⟨⟨%w1, W1⟩, ⟨%w2, W2⟩, ⟨%w3, W3⟩, ⟨%w4, W4⟩, ⟨%d1, L1⟩, ⟨%d2, L2⟩, ⟨%d3, L3⟩, HS⟩, Hr, ⟨V0, V1⟩, M1, M2, M3, M4⟩
  ihave HS := (slots_split (F := F) c) $$ HS
  icases HS with ⟨S0, S1⟩
  isplitr [Hr]
  · isplitl [W1]; · iexists w1; isplitl [W1]; · iexact W1
                    ipureintro; intro h; omega
    isplitl [W2]; · iexists w2; isplitl [W2]; · iexact W2
                    ipureintro; intro h; omega
    isplitl [W3]; · iexists w3; isplitl [W3]; · iexact W3
                    ipureintro; intro h; omega
    isplitl [W4]; · iexists w4; isplitl [W4]; · iexact W4
                    ipureintro; intro h; omega
    isplitl [L1]; · iexists d1; isplitl [L1]; · iexact L1
                    ipureintro; intro h; omega
    isplitl [L2]; · iexists d2; isplitl [L2]; · iexact L2
                    ipureintro; intro h; omega
    isplitl [L3]; · iexists d3; isplitl [L3]; · iexact L3
                    ipureintro; intro h; omega
    isplitl [M1]; · iexact M1
    isplitl [M2]; · iexact M2
    isplitl [M3]; · iexact M3
    isplitl [M4]; · iexact M4
    isplitl [S0]; · iexact S0
    isplitl [S1]; · iexact S1
    isplitl [V0]; · iexact V0
    iexact V1
  iexact Hr

/-- After the last step everything is handed back. -/
theorem carried_out (c : Dev nD) : carried m c 11 ⊢ (Pipeline.ΦD ownSem spec0 mats (V m) c : sProp 𝕄) := by
  rw [own_eq]
  unfold carried Inv wtAt slAt
  rw [show min 11 4 = 4 from rfl, xfer_four]
  simp only [xfer]
  unfold idleSlots
  iintro ⟨⟨⟨%w1, W1, -⟩, ⟨%w2, W2, -⟩, ⟨%w3, W3, -⟩, ⟨%w4, W4, -⟩, ⟨%d1, L1, -⟩, ⟨%d2, L2, -⟩, ⟨%d3, L3, -⟩, M1, M2, M3, M4, S0, S1, V0, V1⟩, Hr⟩
  ihave HS := (slots_join (F := F) c) $$ [S0 S1]
  · isplitl [S0]; · iexact S0
    iexact S1
  isplitl [W1 W2 W3 W4 L1 L2 L3 HS]
  · isplitl [W1]; · iexists w1; iexact W1
    isplitl [W2]; · iexists w2; iexact W2
    isplitl [W3]; · iexists w3; iexact W3
    isplitl [W4]; · iexists w4; iexact W4
    isplitl [L1]; · iexists d1; iexact L1
    isplitl [L2]; · iexists d2; iexact L2
    isplitl [L3]; · iexists d3; iexact L3
    iexact HS
  isplitl [Hr]; · iexact Hr
  isplitl [V0 V1]
  · isplitl [V0]; · iexact V0
    iexact V1
  isplitl [M1]; · iexact M1
  isplitl [M2]; · iexact M2
  isplitl [M3]; · iexact M3
  iexact M4

/-! ## The pipeline -/

/-- What the pipeline's windows hold: the input's blocks stay, and from the fourth step on the output
    block is the last layer's result for the block entered three steps before. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => (inp m c).out (t.val - 3)
  Φ p := carried m c p.val
  q _ := fullShare
  owed _ := 0

/-- A window's array begins as it was launched. -/
theorem A_eq (c : Dev nD) (w : Fin cfg0.W) : (dats m 0 c).A w = V m c (Pipeline.arrRef spec0 w) := by
  dsimp only [dats]

/-- A step leaves the input's block alone, -/
theorem after_in (c : Dev nD) (t : Fin cfg0.N) : (dats m 0 c).after 0 t = iblk m c 0 t := by dsimp only [dats]

/-- and leaves the last layer's result in the output's block. -/
theorem after_out (c : Dev nD) (t : Fin cfg0.N) : (dats m 0 c).after 1 t = (inp m c).out (t.val - 3) := by dsimp only [dats]

/-- The input's window holds the step's block. -/
theorem before_in (c : Dev nD) (t : Fin cfg0.N) (d) : (dats m 0 c).before 0 t d = iblk m c 0 t :=
  ((dats m 0 c).before_in_eq_fetched 0 rfl (fun _ => rfl) (fun _ _ _ => rfl)
    (fun t => by rw [after_in]; unfold Dat.blockOf iblk; rw [A_eq]; try rfl) t d).trans
    (by unfold Dat.fetched Dat.blockOf iblk; rw [A_eq]; try rfl)

/-- That block is the step's input. -/
theorem iblk_eq (c : Dev nD) (t : Fin cfg0.N) : iblk m c 0 t = (inp m c).x t.val := by
  have h : t = ⟨min t.val 10, lt_of_le_of_lt (min_le_right _ _) (by decide : 10 < 11)⟩ :=
    Fin.ext (by have h : t.val < 11 := t.isLt; show t.val = min t.val 10; omega)
  exact congrArg (fun s : Fin cfg0.N => (show S512x1024.Idx → Elt F .f32 from iblk m c 0 s)) h

/-- Before the fourth step the output is not written back. -/
theorem no_flush : ∀ t : Fin cfg0.N, t.val < 3 → (cfg0.win 1).flush t = false := by decide

/-- The output block is left alone before the fourth step, -/
theorem idle_early (t : Fin cfg0.N) (ht : ¬ 3 ≤ t.val) : cfg0.idle 1 (cfg0.grid.coords t) = true := by
  show (!(k0_cond9 (grid0.coords t) == 1#1)) = true
  rw [Bool.not_eq_true', beq_eq_false_iff_ne]
  exact fun h => ht ((cond9_iff t).1 h)

/-- and written from there on. -/
theorem idle_late (t : Fin cfg0.N) (ht : 3 ≤ t.val) : cfg0.idle 1 (cfg0.grid.coords t) = false := by
  show (!(k0_cond9 (grid0.coords t) == 1#1)) = false
  rw [Bool.not_eq_false', beq_iff_eq]
  exact (cond9_iff t).2 ht

/-- The pipeline's call of its body is the kernel at that step. -/
theorem defs_row (t : Fin cfg0.N) : defs₀ (F := F) .tc cfg0.body (cfg0.bodyArgs t (cfg0.slots t)) = bodyAt0 t := by
  unfold defs₀
  rw [Defs.onTc_tc]

/-- The kernel at a step, in the pipeline's words. -/
theorem step_ok (c : Dev nD) (t : Fin cfg0.N) :
    iprop(carried m c t.val ∗ (dats m 0 c).owesAt () t.castSucc
        ∗ iprop((∃ d, owns (c : Thread nD τ) (st0_0 t) fullShare ((dats m 0 c).before 0 t d))
          ∗ (∃ d, owns (c : Thread nD τ) (st0_1 t) fullShare ((dats m 0 c).before 1 t d))))
      ⊢ wp frame (wpE (defs₀ (F := F)) Variants.none c none) Set.univ (bodyAt0 t) fun _ =>
        iprop(carried m c (t.val + 1) ∗ (dats m 0 c).owesAt () t.succ
          ∗ iprop(owns (c : Thread nD τ) (st0_0 t) fullShare ((dats m 0 c).after 0 t)
            ∗ (∃ d o', owns (c : Thread nD τ) (st0_1 t) fullShare o'
              ∗ ⌜(3 ≤ t.val → o' = (dats m 0 c).after 1 t) ∧ (¬ 3 ≤ t.val → o' = (dats m 0 c).before 1 t d)⌝))) := by
  unfold bodyAt0
  rw [body_eq]
  simp only [before_in, after_in, after_out, iblk_eq]
  unfold Dat.owesAt Pipeline.owesWithin
  rw [show (dats m 0 c).owed t.castSucc = 0 from rfl, show (dats m 0 c).owed t.succ = 0 from rfl]
  unfold carried
  iintro ⟨⟨HI, Hr⟩, ⟨%W, -, HW⟩, ⟨%d0, HX⟩, ⟨%d1, HO⟩⟩
  iapply (runs_body (inp m c) t (win0_0.stage (cfg0.slots t 0)) (win0_1.stage (cfg0.slots t 1)) ((dats m 0 c).before 1 t d1)) $$ [HX HI HW HO]
  · isplitl [HX]; · iexact HX
    isplitl [HI]; · iexact HI
    isplitl [HW]; · unfold waits; iexists W; iexact HW
    iexact HO
  unfold waits
  iintro ⟨HX, HI, ⟨%W', HW⟩, %o', HO, %ho⟩
  isplitl [HI Hr]
  · isplitl [HI]; · iexact HI
    iexact Hr
  isplitl [HW]
  · iexists W'
    isplitr; · ipureintro; exact fun _ _ => Or.inl trivial
    iexact HW
  isplitl [HX]; · iexact HX
  iexists d1, o'
  isplitl [HO]; · iexact HO
  ipureintro
  exact ho

/-- What a step leaves in the output's block, as the pipeline asks for it. -/
theorem out_left (c : Dev nD) (t : Fin cfg0.N) :
    iprop(∃ d o', owns (c : Thread nD τ) (st0_1 t) fullShare o'
        ∗ ⌜(3 ≤ t.val → o' = (dats m 0 c).after 1 t) ∧ (¬ 3 ≤ t.val → o' = (dats m 0 c).before 1 t d)⌝)
      ⊢ (match cfg0.idle 1 (cfg0.grid.coords t) with
        | true => match (cfg0.win 1).flush t with
          | false => iprop(∃ d, owns (c : Thread nD τ) (st0_1 t) fullShare ((dats m 0 c).before 1 t d))
          | true => owns (c : Thread nD τ) (st0_1 t) fullShare ((dats m 0 c).after 1 t)
        | false => owns (c : Thread nD τ) (st0_1 t) fullShare ((dats m 0 c).after 1 t) : sProp 𝕄) := by
  by_cases ht : 3 ≤ t.val
  · rw [idle_late t ht]
    iintro ⟨%d, %o', H, %h⟩
    rw [h.1 ht]
    iexact H
  · rw [idle_early t ht, no_flush t (by omega)]
    iintro ⟨%d, %o', H, %h⟩
    rw [h.2 ht]
    iexists d
    iexact H

/-- Every step does what the pipeline asks of it. -/
theorem body_obligation (c : Dev nD) : BodyObligation (dats (F := F) m 0 c) (defs₀ (F := F)) Variants.none () Set.univ := fun t => by
  rw [bigSep_W0, bigSep_W0, defs_row]
  refine triple_restated (step_ok m c t) rfl .rfl fun _ => ?_
  show iprop(carried m c (t.val + 1) ∗ (dats m 0 c).owesAt () t.succ
      ∗ iprop(owns (c : Thread nD τ) (st0_0 t) fullShare ((dats m 0 c).after 0 t) ∗ _))
    ⊢ iprop(carried m c (t.val + 1) ∗ (dats m 0 c).owesAt () t.succ
      ∗ iprop(owns (c : Thread nD τ) (st0_0 t) fullShare ((dats m 0 c).after 0 t) ∗ _))
  iintro ⟨HC, HW, HX, HO⟩
  isplitl [HC]; · iexact HC
  isplitl [HW]; · iexact HW
  isplitl [HX]; · iexact HX
  iapply (out_left m c t) $$ HO

/-! ## The run -/

set_option backward.isDefEq.respectTransparency.types false in
/-- The program runs to its end: its windows' arrays hold what the pipeline wrote, everything else what it
    held, and every semaphore is at zero. -/
theorem run_main :
    θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 ownSem defs₀ Variants.none ownSem_facts mats mats_sub m ρ main
    (hbody := fun c => (body_obligation m c).loose) (hshare := fun c => (dats m 0 c).share_full fun _ => rfl)
    (howed := fun _ _ => rfl) (V := V m) (hmain := launch_main m Variants.none) (hA := A_eq m)
    (hin := carried_in m) (hout := carried_out m)

/-- The arguments end as they began. -/
theorem args_kept (c : Dev nD) (r : _) (h : Pipeline.FramePost cfgs (dats m) 0 (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  have other : ∀ b ∈ mats, r.2.mem ((c.tc : Thread nD τ).loc b) = m ((c.tc : Thread nD τ).loc b) := fun b hb => (h c).2 b (mats_sub hb)
  ⟨((h c).1 0).trans (((dats m 0 c).arrAt_in 0 rfl _).trans (A_eq m c 0)),
    other main_arg1 (by decide), other main_arg2 (by decide), other main_arg3 (by decide), other main_arg4 (by decide)⟩

end Cert.KernelIdeal.Hand

end
-- ==== Proof.Frames.lean ====
/- The kernel's frame, at any reading of the numbers. -/
module

public import proofs.«01_k».proof.Proof.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The program runs, its arguments end as they began, and every semaphore is at zero. -/
theorem frame_any :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => args_kept m c r h.1, h.2⟩) (run_main m ρ)

end Cert.KernelIdeal.Hand

end
-- ==== Proof.Twin.lean ====
/- The kernel's frame for the program as printed: it is the idealized program's text, so the frame proved
   at any reading of the numbers is its own. -/
module

public import proofs.«01_k».proof.Defs
public import proofs.«01_k».proof.Proof.Frames
public import proofs.«01_k».proof.Proof.Gen.Kernel
public import Idealize.ShloMosaic.Lib.Tactic

@[expose] public section

set_option maxRecDepth 16384

noncomputable section

namespace Cert.Proof

open Idealize.ShloMosaic Idealize.SL.Sem

/-- What the frame says of the idealized program's text, read at the bit patterns. -/
def FrameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

/-- The two programs are the same text, so the two frames are the same statement. -/
theorem frame_same : Cert.quiescent_Kernel (hKernel := Cert.Kernel.Gen.facts) = FrameAtBits := by
  sl_kernel_rfl

/-- The kernel as printed runs, its arguments end as they began, and every semaphore is at zero. -/
theorem kernel_frame : Cert.quiescent_Kernel (hKernel := Cert.Kernel.Gen.facts) :=
  frame_same.mpr fun m g _ => Cert.KernelIdeal.Hand.frame_any (F := Bits) m g

/-- The idealized kernel likewise. -/
theorem kernelIdeal_frame : Cert.quiescent_KernelIdeal (hKernelIdeal := Cert.KernelIdeal.Gen.facts) := fun m g _ =>
  Cert.KernelIdeal.Hand.frame_any (F := Ideal) m g

end Cert.Proof

end
-- ==== Proof.Perceptron.lean ====
/- Four layers of a perceptron on extended reals: the mathematics both programs are compared with. -/
module

public import Idealize.ShloMosaic.Lib.MatmulPlain

@[expose] public section

noncomputable section

namespace Cert.Math

open Idealize.ShloMosaic Idealize.ShloMosaic.ValueIdx

/-- An `M` by `N` matrix of extended reals. -/
abbrev Matrix2 (M N : ℕ) : Type := (⟨2, ![M, N]⟩ : Shape).Idx → EReal

/-- Every row of `X` against every row of `W`. -/
def prod {M K N : ℕ} (X : Matrix2 M K) (W : Matrix2 N K) : Matrix2 M N :=
  fun i => ∑ k : Fin K, X (ix2 (i 0) k) * W (ix2 (i 1) k)

/-- A hidden layer: the products, negative ones replaced by zero. -/
def hidden {M K N : ℕ} (X : Matrix2 M K) (W : Matrix2 N K) : Matrix2 M N := fun i => max (prod X W i) 0

/-- Three hidden layers and a last one that keeps its products. -/
def perceptron {M K₁ K₂ K₃ K₄ N : ℕ} (W₁ : Matrix2 K₂ K₁) (W₂ : Matrix2 K₃ K₂) (W₃ : Matrix2 K₄ K₃) (W₄ : Matrix2 N K₄)
    (X : Matrix2 M K₁) : Matrix2 M N :=
  prod (hidden (hidden (hidden X W₁) W₂) W₃) W₄

/-- The `B` rows of `X` that begin at row `r`. -/
def rowsFrom {M N : ℕ} (B r : ℕ) (h : r + B ≤ M) (X : Matrix2 M N) : Matrix2 B N :=
  fun i => X (ix2 ⟨r + (i 0).val, lt_of_lt_of_le (Nat.add_lt_add_left (i 0).isLt r) h⟩ (i 1))

/-- A row of the result depends on that row of the input alone: the perceptron of some rows is those rows of the
    perceptron. -/
theorem perceptron_rowsFrom {M K₁ K₂ K₃ K₄ N : ℕ} (W₁ : Matrix2 K₂ K₁) (W₂ : Matrix2 K₃ K₂) (W₃ : Matrix2 K₄ K₃)
    (W₄ : Matrix2 N K₄) (X : Matrix2 M K₁) (B r : ℕ) (h : r + B ≤ M) :
    perceptron W₁ W₂ W₃ W₄ (rowsFrom B r h X) = rowsFrom B r h (perceptron W₁ W₂ W₃ W₄ X) := rfl

end Cert.Math

end
-- ==== Proof.Reference.lean ====
/- What the reference computes, on extended reals: the same perceptron of the whole input. -/
module

public import proofs.«01_k».proof.Defs
public import proofs.«01_k».proof.Proof.Perceptron
public import proofs.«01_k».proof.Proof.Gen.ReferenceIdeal.Run
public import Idealize.ShloMosaic.Lib.Pipeline.Value
public import Idealize.ShloMosaic.Lib.StackMember
public import Idealize.ShloMosaic.Lib.Quiescent

@[expose] public section

noncomputable section

namespace Cert.ReferenceIdeal.Hand

open Cert.ReferenceIdeal Cert.ReferenceIdeal.Gen Cert.Math
open Idealize.ShloMosaic Idealize.ShloMosaic.TcCoe Idealize.ShloMosaic.ValueIdx
open Idealize.SL.Sem

/-- A product with a transposed matrix pairs the two matrices' rows. -/
theorem dot_transpose {M K N : ℕ} (X : FVec Ideal ⟨2, ![M, K]⟩ .f32) (W : FVec Ideal ⟨2, ![N, K]⟩ .f32)
    (h : (⟨2, ![N, K]⟩ : Shape).Transposes [1, 0] ⟨2, ![K, N]⟩) :
    Host.dotGeneral (DotDims.plain M K N) none X (transpose ⟨2, ![K, N]⟩ [1, 0] W h) = prod (M := M) (K := K) (N := N) X W := by
  funext i
  rw [eq_ix2 i]
  refine (StackMember.dotGeneral_plain_apply none X _ (i 0) (i 1)).trans (Finset.sum_congr rfl fun k _ => congrArg (X (ix2 (i 0) k) * ·) ?_)
  refine transpose_apply [1, 0] W h (ix2 k (i 1)) (ix2 (i 1) k) fun b => ?_
  match b with
  | ⟨0, _⟩ => rfl
  | ⟨1, _⟩ => rfl

/-- A hidden layer as the reference writes it. -/
theorem layer_eq {M K N : ℕ} (X : FVec Ideal ⟨2, ![M, K]⟩ .f32) (W : FVec Ideal ⟨2, ![N, K]⟩ .f32)
    (h : (⟨2, ![N, K]⟩ : Shape).Transposes [1, 0] ⟨2, ![K, N]⟩) (hb : S_.BroadcastsInDim ⟨2, ![M, N]⟩ ![]) :
    maximumf (Host.dotGeneral (DotDims.plain M K N) none X (transpose ⟨2, ![K, N]⟩ [1, 0] W h))
        (broadcastInDim ⟨2, ![M, N]⟩ ![] hb (constant (F := Ideal) S_ .f32 0x00000000#32))
      = hidden (M := M) (K := K) (N := N) X W := by
  rw [dot_transpose]
  funext i
  show max _ (Ideal.ofBits .f32 0x00000000#32) = _
  rw [Ideal.ofBits_zero_f32]
  rfl

/-- The reference's whole expression. -/
theorem value_eq (X : FVec Ideal S4096x1024 .f32) (W₁ : FVec Ideal S2048x1024 .f32) (W₂ W₃ : FVec Ideal S2048x2048 .f32)
    (W₄ : FVec Ideal S1024x2048 .f32) :
    Host.dotGeneral (F := Ideal) dot_S4096x2048_S2048x1024_S4096x1024_1_0_0_1_n_n none
      (maximumf (Host.dotGeneral (F := Ideal) dot_S4096x2048_S2048x2048_S4096x2048_1_0_0_1_n_n none
        (maximumf (Host.dotGeneral (F := Ideal) dot_S4096x2048_S2048x2048_S4096x2048_1_0_0_1_n_n none
          (maximumf (Host.dotGeneral (F := Ideal) dot_S4096x1024_S1024x2048_S4096x2048_1_0_0_1_n_n none X
              (transpose S1024x2048 [1, 0] W₁ transposes_S2048x1024_S1024x2048_1_0))
            (broadcastInDim S4096x2048 ![] bcast_S_S4096x2048 (constant (F := Ideal) S_ .f32 0x00000000#32)))
          (transpose S2048x2048 [1, 0] W₂ transposes_S2048x2048_S2048x2048_1_0))
        (broadcastInDim S4096x2048 ![] bcast_S_S4096x2048 (constant (F := Ideal) S_ .f32 0x00000000#32)))
        (transpose S2048x2048 [1, 0] W₃ transposes_S2048x2048_S2048x2048_1_0))
      (broadcastInDim S4096x2048 ![] bcast_S_S4096x2048 (constant (F := Ideal) S_ .f32 0x00000000#32)))
      (transpose S2048x1024 [1, 0] W₄ transposes_S1024x2048_S2048x1024_1_0)
    = perceptron (M := 4096) (K₁ := 1024) (K₂ := 2048) (K₃ := 2048) (K₄ := 2048) (N := 1024) W₁ W₂ W₃ W₄ X := by
  let H₁ : FVec Ideal S4096x2048 .f32 := hidden (M := 4096) (K := 1024) (N := 2048) X W₁
  let H₂ : FVec Ideal S4096x2048 .f32 := hidden (M := 4096) (K := 2048) (N := 2048) H₁ W₂
  let H₃ : FVec Ideal S4096x2048 .f32 := hidden (M := 4096) (K := 2048) (N := 2048) H₂ W₃
  have e₁ : _ = H₁ := layer_eq X W₁ transposes_S2048x1024_S1024x2048_1_0 bcast_S_S4096x2048
  have e₂ : _ = H₂ := layer_eq H₁ W₂ transposes_S2048x2048_S2048x2048_1_0 bcast_S_S4096x2048
  have e₃ : _ = H₃ := layer_eq H₂ W₃ transposes_S2048x2048_S2048x2048_1_0 bcast_S_S4096x2048
  have e₄ := dot_transpose H₃ W₄ transposes_S1024x2048_S2048x1024_1_0
  refine Eq.trans ?_ e₄
  rw [← e₃, ← e₂, ← e₁]
  rfl

variable (m : (ℓ : Loc nD τ sig) → Buf (Elt Ideal) ℓ) (ρ : Dev nD → PrngReg)

/-- The reference ends with the perceptron in its result and its arguments as they were. -/
theorem reference_value :
    θ_run defs (onTc (τ := τ) (main (F := Ideal))) ⟨m, fun _ => 0, ρ⟩ (fun r => ∀ c : Dev nD,
      r.2.mem ((c.tc : Thread nD τ).loc main_v13)
        = perceptron (M := 4096) (K₁ := 1024) (K₂ := 2048) (K₃ := 2048) (K₄ := 2048) (N := 1024)
            (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (value_eq _ _ _ _ _), (h c).2⟩) (Cert.ReferenceIdeal.Value.run m ρ)

/-- The reference runs, its arguments end as they began, and it has no semaphore to leave raised. -/
theorem reference_frame : Cert.quiescent_ReferenceIdeal (hReferenceIdeal := Cert.ReferenceIdeal.Gen.facts) := fun m g _ =>
  (θ_run defs _ _).mono (fun r h => ⟨fun c => (h c).2, sem_eq_zero_of_no_sems (by decide) r.2⟩) (reference_value m g)

end Cert.ReferenceIdeal.Hand

end
-- ==== Proof.Block.lean ====
/- What the kernel computes for one block of 512 rows, on extended reals: the four layers of the perceptron. -/
module

public import proofs.«01_k».proof.Proof.Carry
public import proofs.«01_k».proof.Proof.Perceptron
public import Idealize.ShloMosaic.Lib.Pipeline.Value

@[expose] public section

noncomputable section

namespace Cert.KernelIdeal.Hand

open Cert.KernelIdeal Cert.KernelIdeal.Gen Cert.Math
open Idealize.ShloMosaic Idealize.ShloMosaic.ValueIdx

/-- A matrix product begun from zero, each side's rows paired. -/
theorem matmul_rows {M K N : ℕ} {φ₁ φ₂ : FTy} (X : FVec Ideal ⟨2, ![M, K]⟩ φ₁) (W : FVec Ideal ⟨2, ![N, K]⟩ φ₂) :
    matmul (DotDims.transposedRhs M K N) none X W (constant ⟨2, ![M, N]⟩ .f32 0x00000000#32) = prod (M := M) (K := K) (N := N) X W := by
  funext i
  rw [eq_ix2 i]
  refine (Ideal.matmul_transposedRhs_apply none X W _ _ _).trans ?_
  show Ideal.ofBits .f32 0x00000000#32 + _ = _
  rw [Ideal.ofBits_zero_f32, zero_add]
  rfl

/-- The larger of each entry and zero. -/
theorem maximumf_zero {s : Shape} (x : FVec Ideal s .f32) :
    maximumf x (broadcast s (Scalar.ofBits (F := Ideal) .f32 0x00000000#32)) = fun i => max (x i) 0 := by
  funext i
  show max (x i) (Ideal.ofBits .f32 0x00000000#32) = _
  rw [Ideal.ofBits_zero_f32]

/-- The first layer. -/
theorem first_layer (x : Matrix2 512 1024) (w : Matrix2 2048 1024) :
    k0_pay14 (F := Ideal) x w = shapeCast S1x512x2048 (hidden x w) shapeCasts_S512x2048_S1x512x2048 := by
  refine congrArg (fun v : Matrix2 512 2048 => shapeCast S1x512x2048 v shapeCasts_S512x2048_S1x512x2048) ?_
  refine (maximumf_zero (s := S512x2048) _).trans (funext fun i => congrArg (max · 0) (congrFun (matmul_rows (φ₁ := .bf16) (φ₂ := .bf16) x w) i))

/-- The second layer. -/
theorem second_layer (x : Matrix2 512 2048) (w : Matrix2 2048 2048) :
    k0_pay16 (F := Ideal) (shapeCast S1x512x2048 x shapeCasts_S512x2048_S1x512x2048) w
      = shapeCast S1x512x2048 (hidden x w) shapeCasts_S512x2048_S1x512x2048 := by
  refine congrArg (fun v : Matrix2 512 2048 => shapeCast S1x512x2048 v shapeCasts_S512x2048_S1x512x2048) ?_
  refine (maximumf_zero (s := S512x2048) _).trans (funext fun i => congrArg (max · 0) ?_)
  rw [shapeCast_shapeCast]
  exact congrFun (matmul_rows (φ₁ := .bf16) (φ₂ := .bf16) x w) i

/-- The third layer is the second's text over. -/
theorem third_layer (x : Matrix2 512 2048) (w : Matrix2 2048 2048) :
    k0_pay18 (F := Ideal) (shapeCast S1x512x2048 x shapeCasts_S512x2048_S1x512x2048) w
      = shapeCast S1x512x2048 (hidden x w) shapeCasts_S512x2048_S1x512x2048 := second_layer x w

/-- The last layer. -/
theorem last_layer (x : Matrix2 512 2048) (w : Matrix2 1024 2048) :
    k0_pay3 (F := Ideal) (shapeCast S1x512x2048 x shapeCasts_S512x2048_S1x512x2048) w = prod x w := by
  unfold k0_pay3
  simp only [shapeCast_shapeCast]
  exact matmul_rows (φ₁ := .bf16) (φ₂ := .bf16) x w

/-- A matrix's rounded copy is the matrix. -/
theorem rounded_eq {R C : ℕ} (A : Weight R C) (c : Dev nD) (g) : A.rounded (F := Ideal) c g = A.arr.view.read (Elt Ideal) g := rfl

/-- A block's result: the four layers of the block. -/
theorem out_eq (c : Dev nD) (I : Inp Ideal c) (j : ℕ) :
    I.out j = perceptron (M := 512) (K₁ := 1024) (K₂ := 2048) (K₃ := 2048) (K₄ := 2048) (N := 1024) I.g1 I.g2 I.g3 I.g4 (I.x j) := by
  unfold Inp.out Inp.h3 Inp.h2 Inp.h1
  rw [first_layer, second_layer, third_layer, last_layer]
  rfl

end Cert.KernelIdeal.Hand

end
-- ==== Proof.Result.lean ====
/- What the result array holds when the kernel ends, on extended reals: the perceptron of the whole input. -/
module

public import proofs.«01_k».proof.Proof.Block
public import proofs.«01_k».proof.Proof.Run

@[expose] public section

noncomputable section

namespace Cert.KernelIdeal.Hand

open Cert.KernelIdeal Cert.KernelIdeal.Gen Cert.Math
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The perceptron of the argument arrays as launched. -/
abbrev wanted (c : Dev nD) : Matrix2 4096 1024 :=
  perceptron (M := 4096) (K₁ := 1024) (K₂ := 2048) (K₃ := 2048) (K₄ := 2048) (N := 1024)
    (m ((c : Thread nD τ).loc main_arg1)) (m ((c : Thread nD τ).loc main_arg2)) (m ((c : Thread nD τ).loc main_arg3))
    (m ((c : Thread nD τ).loc main_arg4)) (m ((c : Thread nD τ).loc main_arg0))

/-- The input's block at step `t` is block `min t 7` of rows. -/
theorem index_in : ∀ t : Fin cfg0.N, (cfg0.win 0).index t 0 = min t.val 7 ∧ (cfg0.win 0).index t 1 = 0 := by decide

/-- The output's block at step `t` is block `t - 3` of rows. -/
theorem index_out : ∀ t : Fin cfg0.N, (cfg0.win 1).index t 0 = t.val - 3 ∧ (cfg0.win 1).index t 1 = 0 := by decide

/-- The output is written back from the fourth step on. -/
theorem flush_late : ∀ t : Fin cfg0.N, 3 ≤ t.val → (cfg0.win 1).flush t = true := by decide

/-- Entry `j` of the input's block at step `t`, placed in the input. -/
theorem place_in (t : Fin cfg0.N) (k : ℕ) (hk : min t.val 7 = k) (h : 512 * k + 512 ≤ 4096) (j : S512x1024.Idx) :
    ((cfg0.win 0).blk t).view.emb j = ix2 ⟨512 * k + (j 0).val, lt_of_lt_of_le (Nat.add_lt_add_left (j 0).isLt _) h⟩ (j 1) := by
  obtain ⟨e0, e1⟩ := index_in t
  funext a; apply Fin.ext
  match a with
  | ⟨0, _⟩ => show (cfg0.win 0).index t 0 * 512 + 1 * (j 0).val = 512 * k + (j 0).val; omega
  | ⟨1, _⟩ => show (cfg0.win 0).index t 1 * 1024 + 1 * (j 1).val = (j 1).val; omega

/-- Entry `j` of the output's block at step `t`, placed in the result. -/
theorem place_out (t : Fin cfg0.N) (k : ℕ) (hk : t.val - 3 = k) (h : 512 * k + 512 ≤ 4096) (j : S512x1024.Idx) :
    ((cfg0.win 1).blk t).view.emb j = ix2 ⟨512 * k + (j 0).val, lt_of_lt_of_le (Nat.add_lt_add_left (j 0).isLt _) h⟩ (j 1) := by
  obtain ⟨e0, e1⟩ := index_out t
  funext a; apply Fin.ext
  match a with
  | ⟨0, _⟩ => show (cfg0.win 1).index t 0 * 512 + 1 * (j 0).val = 512 * k + (j 0).val; omega
  | ⟨1, _⟩ => show (cfg0.win 1).index t 1 * 1024 + 1 * (j 1).val = (j 1).val; omega

/-- The block entered at step `k` is rows `512 k` to `512 k + 511` of the input. -/
theorem x_eq (c : Dev nD) (k : ℕ) (hk : k < 8) :
    (inp m c).x k = rowsFrom (M := 4096) (N := 1024) 512 (512 * k) (by omega) (m ((c : Thread nD τ).loc main_arg0)) := by
  funext j
  exact congrArg (fun i : S4096x1024.Idx => (m ((c : Thread nD τ).loc main_arg0) : Matrix2 4096 1024) i)
    (place_in _ k (by show min (min k 10) 7 = k; omega) (by omega) j)

/-- What a step writes back is its rows of the perceptron. -/
theorem flushed_eq (c : Dev nD) (t : Fin cfg0.N) (ht : (cfg0.win 1).flush t = true) :
    (dats m 0 c).flushed 1 t = ((cfg0.win 1).blk t).view.read (Elt Ideal) (wanted m c) := by
  have h3 : 3 ≤ t.val := by
    by_contra h
    rw [no_flush t (by omega)] at ht
    exact absurd ht (by decide)
  have h11 : t.val < 11 := t.isLt
  funext j
  show (dats m 0 c).after 1 t j = wanted m c (((cfg0.win 1).blk t).view.emb j)
  rw [after_out, out_eq, x_eq m c _ (by omega), place_out t _ rfl (by omega)]
  rfl

/-- The eight blocks written back cover the result. -/
theorem covered (i : S4096x1024.Idx) :
    ∃ t : Fin cfg0.N, (cfg0.win 1).flush t = true ∧ i ∈ ((cfg0.win 1).blk t).view.set := by
  have h0 : (i 0).val < 4096 := (i 0).isLt
  have hq : (i 0).val / 512 < 8 := by omega
  let t : Fin cfg0.N := ⟨(i 0).val / 512 + 3, by show _ < 11; omega⟩
  refine ⟨t, flush_late t (by show 3 ≤ (i 0).val / 512 + 3; omega), ?_⟩
  have h := ((cfg0.win 1).blk t).view.emb_mem_set (ix2 (n0 := 512) (n1 := 1024) ⟨(i 0).val % 512, Nat.mod_lt _ (by decide)⟩ (i 1))
  rw [place_out t ((i 0).val / 512) (by show (i 0).val / 512 + 3 - 3 = _; omega) (by omega)] at h
  refine (congrArg (· ∈ ((cfg0.win 1).blk t).view.set) (funext fun a => Fin.ext ?_)).mp h
  match a with
  | ⟨0, _⟩ => show 512 * ((i 0).val / 512) + (i 0).val % 512 = (i 0).val; omega
  | ⟨1, _⟩ => rfl

/-- So the result array ends holding the perceptron. -/
theorem result_eq (c : Dev nD) : (dats m 0 c).arrAt 1 cfg0.N = wanted m c :=
  (dats m 0 c).arrAt_eq_of_cover 1 (wanted m c) (flushed_eq m c) covered

/-- The kernel ends with the perceptron in the result and its arguments as they were. -/
theorem kernel_value :
    θ_run defs (onTc (τ := τ) (main (F := Ideal))) ⟨m, fun _ => 0, ρ⟩ (fun r => ∀ c : Dev nD,
      r.2.mem ((c.tc : Thread nD τ).loc main_v0) = wanted m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 1).trans (result_eq m c), args_kept m c r h.1⟩) (run_main m ρ)

end Cert.KernelIdeal.Hand

end
-- ==== Proof.Equation.lean ====
/- The kernel's result is the reference's, on extended reals. -/
module

public import proofs.«01_k».proof.Proof.Result
public import proofs.«01_k».proof.Proof.Reference

@[expose] public section

noncomputable section

namespace Cert.Proof

open Idealize.ShloMosaic Idealize.SL.Sem

/-- From equal arguments both programs end with the perceptron of those arguments. -/
theorem same_value : Cert.algebraic_KernelIdeal_ReferenceIdeal (hKernelIdeal := Cert.KernelIdeal.Gen.facts)
    (hReferenceIdeal := Cert.ReferenceIdeal.Gen.facts) := by
  intro m g m' g' _ same
  refine ⟨fun c => Cert.KernelIdeal.Hand.wanted m c, Cert.KernelIdeal.Hand.kernel_value m g, ?_⟩
  refine (θ_run _ _ _).mono (fun r h c => ⟨(h c).1.trans ?_, (h c).2⟩) (Cert.ReferenceIdeal.Hand.reference_value m' g')
  obtain ⟨e₀, e₁, e₂, e₃, e₄⟩ := same c
  rw [e₀, e₁, e₂, e₃, e₄]

end Cert.Proof

end
-- ==== Proof.lean ====
/- The claims about the kernel, its idealization and the reference, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Twin
public import proofs.«01_k».proof.Proof.Reference
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The three programs run and leave their arguments alone; the idealization replaces nothing; the kernel's result is
    the reference's. -/
theorem claim : Cert.Claim := ⟨Cert.Kernel.Gen.facts, Cert.KernelIdeal.Gen.facts, Cert.ReferenceIdeal.Gen.facts,
  kernel_frame, kernelIdeal_frame, Cert.ReferenceIdeal.Hand.reference_frame, trivial, same_value⟩

end Cert.Proof

end
